-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x2048x2048 : Shape := ⟨3, ![8, 2048, 2048]⟩
abbrev S1x2048x6144 : Shape := ⟨3, ![1, 2048, 6144]⟩
abbrev S1x6144 : Shape := ⟨2, ![1, 6144]⟩
abbrev S1x3x6144 : Shape := ⟨3, ![1, 3, 6144]⟩
abbrev S2048x4096 : Shape := ⟨2, ![2048, 4096]⟩
abbrev S1x2048 : Shape := ⟨2, ![1, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S1x2048x6144 : S_.BroadcastsInDim S1x2048x6144 (![] : Fin 0 → Fin S1x2048x6144.rank)
  reducesTo_S1x2048x6144_S_d0_1_2 : S1x2048x6144.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x3x6144 : S_.BroadcastsInDim S1x3x6144 (![] : Fin 0 → Fin S1x3x6144.rank)
  reducesTo_S1x3x6144_S_d0_1_2 : S1x3x6144.ReducesTo [0, 1, 2] S_
  bcast_S_S2048x4096 : S_.BroadcastsInDim S2048x4096 (![] : Fin 0 → Fin S2048x4096.rank)
  reducesTo_S2048x4096_S_d0_1 : S2048x4096.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x6144 .f32) (main_arg5 : FVec F S2048x4096 .f32) (main_arg6 : FVec F S1x2048 .f32) (main_v13 : IVec S_ 1) (main_v16 : IVec S1x3x6144 1) : IVec S_ 1 :=
  let main_c_5 : IVec S_ 1 := constantI S_ 1 1#1
  let main_v17 : IVec S_ 1 := (fun x v => Host.reduce IntOp.andi x v reducesTo_S1x3x6144_S_d0_1_2 h_S_) main_v16 main_c_5
  let main_v18 : IVec S_ 1 := andi main_v13 main_v17
  let main_v19 : FVec F S1x6144 .f32 := Host.absf main_arg4
  let main_cst_6 : FVec F S_ .f32 := constant S_ .f32 0x7F800000#32
  let main_v20 : FVec F S1x6144 .f32 := broadcastInDim S1x6144 ![] bcast_S_S1x6144 main_cst_6
  let main_v21 : IVec S1x6144 1 := cmpf .olt main_v19 main_v20
  let main_c_7 : IVec S_ 1 := constantI S_ 1 1#1
  let main_v22 : IVec S_ 1 := (fun x v => Host.reduce IntOp.andi x v reducesTo_S1x6144_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  main_v33

def fn {F : FTy → Type} [FloatOps F] (main_arg0 : FVec F S8x2048x2048 .f32) (main_arg1 : FVec F S1x2048x6144 .f32) (main_arg2 : FVec F S1x6144 .f32) (main_arg3 : FVec F S1x3x6144 .f32) (main_arg4 : FVec F S1x6144 .f32) (main_arg5 : FVec F S2048x4096 .f32) (main_arg6 : FVec F S1x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S1x2048x6144 .f32 := Host.absf main_arg1
  let main_cst_0 : FVec F S_ .f32 := constant S_ .f32 0x7F800000#32
  let main_v5 : FVec F S1x2048x6144 .f32 := broadcastInDim S1x2048x6144 ![] bcast_S_S1x2048x6144 main_cst_0
  let main_v6 : IVec S1x2048x6144 1 := cmpf .olt main_v4 main_v5
  let main_c_1 : IVec S_ 1 := constantI S_ 1 1#1
  let main_v7 : IVec S_ 1 := (fun x v => Host.reduce IntOp.andi x v reducesTo_S1x2048x6144_S_d0_1_2 h_S_) main_v6 main_c_1
  let main_v8 : IVec S_ 1 := andi main_v3 main_v7
  let main_v9 : FVec F S1x6144 .f32 := Host.absf main_arg2
  let main_cst_2 : FVec F S_ .f32 := constant S_ .f32 0x7F800000#32
  let main_v10 : FVec F S1x6144 .f32 := broadcastInDim S1x6144 ![] bcast_S_S1x6144 main_cst_2
  let main_v11 : IVec S1x6144 1 := cmpf .olt main_v9 main_v10
  let main_c_3 : IVec S_ 1 := constantI S_ 1 1#1
  let main_v12 : IVec S_ 1 := (fun x v => Host.reduce IntOp.andi x v reducesTo_S1x6144_S_d0_1 h_S_) main_v11 main_c_3
  let main_v13 : IVec S_ 1 := andi main_v8 main_v12
  let main_v14 : FVec F S1x3x6144 .f32 := Host.absf main_arg3
  let main_cst_4 : FVec F S_ .f32 := constant S_ .f32 0x7F800000#32
  let main_v15 : FVec F S1x3x6144 .f32 := broadcastInDim S1x3x6144 ![] bcast_S_S1x3x6144 main_cst_4
  let main_v16 : IVec S1x3x6144 1 := cmpf .olt main_v14 main_v15
  fn_part1 (F := F) main_arg4 main_arg5 main_arg6 main_v13 main_v16
-- ==== Kernel.lean ====
abbrev S8x2048x2048 : Shape := ⟨3, ![8, 2048, 2048]⟩
abbrev S1x2048x6144 : Shape := ⟨3, ![1, 2048, 6144]⟩
abbrev S1x6144 : Shape := ⟨2, ![1, 6144]⟩
abbrev S1x3x6144 : Shape := ⟨3, ![1, 3, 6144]⟩
abbrev S2048x4096 : Shape := ⟨2, ![2048, 4096]⟩
abbrev S1x2048 : Shape := ⟨2, ![1, 2048]⟩
abbrev S_ : Shape := ⟨0, ![]⟩
abbrev S512x512 : Shape := ⟨2, ![512, 512]⟩
abbrev S1024x512 : Shape := ⟨2, ![1024, 512]⟩
abbrev S512x1024 : Shape := ⟨2, ![512, 1024]⟩
abbrev S2047x2048 : Shape := ⟨2, ![2047, 2048]⟩
abbrev S2048x2048 : Shape := ⟨2, ![2048, 2048]⟩
abbrev S4096x2048 : Shape := ⟨2, ![4096, 2048]⟩
abbrev S8x512x2048 : Shape := ⟨3, ![8, 512, 2048]⟩
abbrev S1x1024x512x1 : Shape := ⟨4, ![1, 1024, 512, 1]⟩
abbrev S7x512x2048 : Shape := ⟨3, ![7, 512, 2048]⟩
abbrev S7x1x512x2048 : Shape := ⟨4, ![7, 1, 512, 2048]⟩
abbrev S7x1024x512x2048 : Shape := ⟨4, ![7, 1024, 512, 2048]⟩
abbrev S7x1024x2048 : Shape := ⟨3, ![7, 1024, 2048]⟩
abbrev S2048x6144 : Shape := ⟨2, ![2048, 6144]⟩
abbrev S6144 : Shape := ⟨1, ![6144]⟩
abbrev S3x6144 : Shape := ⟨2, ![3, 6144]⟩
abbrev S2048 : Shape := ⟨1, ![2048]⟩
abbrev S1x2048x2048 : Shape := ⟨3, ![1, 2048, 2048]⟩
abbrev S2048x256 : Shape := ⟨2, ![2048, 256]⟩
abbrev S1x256 : Shape := ⟨2, ![1, 256]⟩
abbrev S3x256 : Shape := ⟨2, ![3, 256]⟩
abbrev S7x1024x256 : Shape := ⟨3, ![7, 1024, 256]⟩
abbrev S1x2048x256 : Shape := ⟨3, ![1, 2048, 256]⟩
abbrev S3x2048x256 : Shape := ⟨3, ![3, 2048, 256]⟩
abbrev S4x1024x256 : Shape := ⟨3, ![4, 1024, 256]⟩
abbrev S1x512x2048 : Shape := ⟨3, ![1, 512, 2048]⟩
abbrev S512x2048 : Shape := ⟨2, ![512, 2048]⟩
abbrev S512x256 : Shape := ⟨2, ![512, 256]⟩
abbrev S1x512x256 : Shape := ⟨3, ![1, 512, 256]⟩
abbrev S520x1 : Shape := ⟨2, ![520, 1]⟩
abbrev S1x520x256 : Shape := ⟨3, ![1, 520, 256]⟩
abbrev S520x256 : Shape := ⟨2, ![520, 256]⟩
abbrev S1x528x256 : Shape := ⟨3, ![1, 528, 256]⟩
abbrev S528x256 : Shape := ⟨2, ![528, 256]⟩
abbrev S1024x256 : Shape := ⟨2, ![1024, 256]⟩
abbrev S1x1024x256 : Shape := ⟨3, ![1, 1024, 256]⟩
abbrev S1x16x256 : Shape := ⟨3, ![1, 16, 256]⟩
abbrev S16x256 : Shape := ⟨2, ![16, 256]⟩

abbrev nBuf : Space → Nat
  | .hbm => 93
  | .vmem => 35
  | .smem => 0
  | _ => 0

abbrev bufTy : (tb : Table) → Fin (tcTables nBuf tb) → BufTy
  | .hbm, ⟨0, _⟩ => ⟨S8x2048x2048, .f32⟩
  | .hbm, ⟨1, _⟩ => ⟨S1x2048x6144, .f32⟩
  | .hbm, ⟨2, _⟩ => ⟨S1x6144, .f32⟩
  | .hbm, ⟨3, _⟩ => ⟨S1x3x6144, .f32⟩
  | .hbm, ⟨4, _⟩ => ⟨S1x6144, .f32⟩
  | .hbm, ⟨5, _⟩ => ⟨S2048x4096, .f32⟩
  | .hbm, ⟨6, _⟩ => ⟨S1x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S512x512, .i32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .i32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S1024x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S1024x512, .f32⟩
  | .hbm, ⟨34, _⟩ => ⟨S1024x512, .i32⟩
  | .hbm, ⟨35, _⟩ => ⟨S_, .i32⟩
  | .hbm, ⟨36, _⟩ => ⟨S1024x512, .i32⟩
  | .hbm, ⟨37, _⟩ => ⟨S1024x512, .i1⟩
  | .hbm, ⟨38, _⟩ => ⟨S_, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S512x1024, .f32⟩
  | .hbm, ⟨51, _⟩ => ⟨S1024x512, .bf16⟩
  | .hbm, ⟨52, _⟩ => ⟨S1024x512, .bf16⟩
  | .hbm, ⟨53, _⟩ => ⟨S512x1024, .bf16⟩
  | .hbm, ⟨54, _⟩ => ⟨S_, .f32⟩
  | .hbm, ⟨55, _⟩ => ⟨S1x2048, .f32⟩
  | .hbm, ⟨56, _⟩ => ⟨S2047x2048, .f32⟩
  | .hbm, ⟨57, _⟩ => ⟨S2047x2048, .f32⟩
  | .hbm, ⟨58, _⟩ => ⟨S2048x2048, .f32⟩
  | .hbm, ⟨59, _⟩ => ⟨S4096x2048, .f32⟩
  | .hbm, ⟨60, _⟩ => ⟨S4096x2048, .bf16⟩
  | .hbm, ⟨61, _⟩ => ⟨S4096x2048, .f32⟩
  | .hbm, ⟨62, _⟩ => ⟨S8x512x2048, .f32⟩
  | .hbm, ⟨63, _⟩ => ⟨S1024x512, .f32⟩
  | .hbm, ⟨64, _⟩ => ⟨S1x1024x512x1, .f32⟩
  | .hbm, ⟨65, _⟩ => ⟨S7x512x2048, .f32⟩
  | .hbm, ⟨66, _⟩ => ⟨S7x1x512x2048, .f32⟩
  | .hbm, ⟨67, _⟩ => ⟨S7x1024x512x2048, .f32⟩
  | .hbm, ⟨68, _⟩ => ⟨S7x1024x512x2048, .f32⟩
  | .hbm, ⟨69, _⟩ => ⟨S7x1024x512x2048, .f32⟩
  | .hbm, ⟨70, _⟩ => ⟨S_, .f32⟩
  | .hbm, ⟨71, _⟩ => ⟨S7x1024x2048, .f32⟩
  | .hbm, ⟨72, _⟩ => ⟨S1024x512, .f32⟩
  | .hbm, ⟨73, _⟩ => ⟨S1x1024x512x1, .f32⟩
  | .hbm, ⟨74, _⟩ => ⟨S7x512x2048, .f32⟩
  | .hbm, ⟨75, _⟩ => ⟨S7x1x512x2048, .f32⟩
  | .hbm, ⟨76, _⟩ => ⟨S7x1024x512x2048, .f32⟩
  | .hbm, ⟨77, _⟩ => ⟨S7x1024x512x2048, .f32⟩
  | .hbm, ⟨78, _⟩ => ⟨S7x1024x512x2048, .f32⟩
  | .hbm, ⟨79, _⟩ => ⟨S_, .f32⟩
  | .hbm, ⟨80, _⟩ => ⟨S7x1024x2048, .f32⟩
  | .hbm, ⟨81, _⟩ => ⟨S7x1024x2048, .f32⟩
  | .hbm, ⟨82, _⟩ => ⟨S8x2048x2048, .bf16⟩
  | .hbm, ⟨83, _⟩ => ⟨S2048x6144, .f32⟩
  | .hbm, ⟨84, _⟩ => ⟨S2048x6144, .bf16⟩
  | .hbm, ⟨85, _⟩ => ⟨S6144, .f32⟩
  | .hbm, ⟨86, _⟩ => ⟨S1x6144, .f32⟩
  | .hbm, ⟨87, _⟩ => ⟨S3x6144, .f32⟩
  | .hbm, ⟨88, _⟩ => ⟨S6144, .f32⟩
  | .hbm, ⟨89, _⟩ => ⟨S1x6144, .f32⟩
  | .hbm, ⟨90, _⟩ => ⟨S2048, .f32⟩
  | .hbm, ⟨91, _⟩ => ⟨S1x2048, .f32⟩
  | .hbm, ⟨92, _⟩ => ⟨S8x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S3x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S7x1024x256, .f32⟩
  | .local _ .vmem, ⟨24, _⟩ => ⟨S1x256, .f32⟩
  | .local _ .vmem, ⟨25, _⟩ => ⟨S1x256, .f32⟩
  | .local _ .vmem, ⟨26, _⟩ => ⟨S1024x512, .bf16⟩
  | .local _ .vmem, ⟨27, _⟩ => ⟨S512x1024, .bf16⟩
  | .local _ .vmem, ⟨28, _⟩ => ⟨S1x2048x256, .bf16⟩
  | .local _ .vmem, ⟨29, _⟩ => ⟨S1x2048x256, .bf16⟩
  | .local _ .vmem, ⟨30, _⟩ => ⟨S3x2048x256, .f32⟩
  | .local _ .vmem, ⟨31, _⟩ => ⟨S2048x256, .f32⟩
  | .local _ .vmem, ⟨32, _⟩ => ⟨S2048x256, .f32⟩
  | .local _ .vmem, ⟨33, _⟩ => ⟨S4x1024x256, .f32⟩
  | .local _ .vmem, ⟨34, _⟩ => ⟨S4x1024x256, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S7x1024x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x2048x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8x2048x2048 : Shape := ⟨3, ![8, 2048, 2048]⟩
abbrev S1x2048x6144 : Shape := ⟨3, ![1, 2048, 6144]⟩
abbrev S1x6144 : Shape := ⟨2, ![1, 6144]⟩
abbrev S1x3x6144 : Shape := ⟨3, ![1, 3, 6144]⟩
abbrev S2048x4096 : Shape := ⟨2, ![2048, 4096]⟩
abbrev S1x2048 : Shape := ⟨2, ![1, 2048]⟩
abbrev S2048x6144 : Shape := ⟨2, ![2048, 6144]⟩
abbrev S8x2048x6144 : Shape := ⟨3, ![8, 2048, 6144]⟩
abbrev S6144 : Shape := ⟨1, ![6144]⟩
abbrev S1x1x6144 : Shape := ⟨3, ![1, 1, 6144]⟩
abbrev S_ : Shape := ⟨0, ![]⟩
abbrev S8x2050x6144 : Shape := ⟨3, ![8, 2050, 6144]⟩
abbrev S3x6144 : Shape := ⟨2, ![3, 6144]⟩
abbrev S2048x2048 : Shape := ⟨2, ![2048, 2048]⟩
abbrev S2048x2048x1 : Shape := ⟨3, ![2048, 2048, 1]⟩
abbrev S2048x2048x2048 : Shape := ⟨3, ![2048, 2048, 2048]⟩
abbrev S2048x8x2048 : Shape := ⟨3, ![2048, 8, 2048]⟩
abbrev S2048 : Shape := ⟨1, ![2048]⟩
abbrev S1x1x2048 : Shape := ⟨3, ![1, 1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x6144, .f32⟩
  | .hbm, ⟨2, _⟩ => ⟨S1x6144, .f32⟩
  | .hbm, ⟨3, _⟩ => ⟨S1x3x6144, .f32⟩
  | .hbm, ⟨4, _⟩ => ⟨S1x6144, .f32⟩
  | .hbm, ⟨5, _⟩ => ⟨S2048x4096, .f32⟩
  | .hbm, ⟨6, _⟩ => ⟨S1x2048, .f32⟩
  | .hbm, ⟨7, _⟩ => ⟨S2048x6144, .f32⟩
  | .hbm, ⟨8, _⟩ => ⟨S8x2048x6144, .f32⟩
  | .hbm, ⟨9, _⟩ => ⟨S6144, .f32⟩
  | .hbm, ⟨10, _⟩ => ⟨S1x1x6144, .f32⟩
  | .hbm, ⟨11, _⟩ => ⟨S8x2048x6144, .f32⟩
  | .hbm, ⟨12, _⟩ => ⟨S8x2048x6144, .f32⟩
  | .hbm, ⟨13, _⟩ => ⟨S_, .i32⟩
  | .hbm, ⟨14, _⟩ => ⟨S_, .f32⟩
  | .hbm, ⟨15, _⟩ => ⟨S8x2050x6144, .f32⟩
  | .hbm, ⟨16, _⟩ => ⟨S3x6144, .f32⟩
  | .hbm, ⟨17, _⟩ => ⟨S8x2048x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S8x2048x6144, .f32⟩
  | .hbm, ⟨22, _⟩ => ⟨S8x2048x6144, .f32⟩
  | .hbm, ⟨23, _⟩ => ⟨S8x2048x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S8x2048x6144, .f32⟩
  | .hbm, ⟨28, _⟩ => ⟨S8x2048x6144, .f32⟩
  | .hbm, ⟨29, _⟩ => ⟨S8x2048x6144, .f32⟩
  | .hbm, ⟨30, _⟩ => ⟨S8x2048x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S8x2048x6144, .f32⟩
  | .hbm, ⟨35, _⟩ => ⟨S8x2048x6144, .f32⟩
  | .hbm, ⟨36, _⟩ => ⟨S8x2048x6144, .f32⟩
  | .hbm, ⟨37, _⟩ => ⟨S6144, .f32⟩
  | .hbm, ⟨38, _⟩ => ⟨S1x1x6144, .f32⟩
  | .hbm, ⟨39, _⟩ => ⟨S8x2048x6144, .f32⟩
  | .hbm, ⟨40, _⟩ => ⟨S8x2048x6144, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S2048x2048, .f32⟩
  | .hbm, ⟨46, _⟩ => ⟨S2048x2048, .f32⟩
  | .hbm, ⟨47, _⟩ => ⟨S2048x2048, .i32⟩
  | .hbm, ⟨48, _⟩ => ⟨S2048x2048, .i32⟩
  | .hbm, ⟨49, _⟩ => ⟨S2048x2048, .i32⟩
  | .hbm, ⟨50, _⟩ => ⟨S_, .i32⟩
  | .hbm, ⟨51, _⟩ => ⟨S2048x2048, .i32⟩
  | .hbm, ⟨52, _⟩ => ⟨S2048x2048, .i1⟩
  | .hbm, ⟨53, _⟩ => ⟨S2048x2048x1, .i1⟩
  | .hbm, ⟨54, _⟩ => ⟨S_, .i32⟩
  | .hbm, ⟨55, _⟩ => ⟨S2048x2048, .i32⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i1⟩
  | .hbm, ⟨60, _⟩ => ⟨S_, .i32⟩
  | .hbm, ⟨61, _⟩ => ⟨S2048x2048, .i32⟩
  | .hbm, ⟨62, _⟩ => ⟨S2048x2048, .i32⟩
  | .hbm, ⟨63, _⟩ => ⟨S2048x2048, .i32⟩
  | .hbm, ⟨64, _⟩ => ⟨S2048x2048x1, .i32⟩
  | .hbm, ⟨65, _⟩ => ⟨S2048x2048x2048, .f32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i32⟩
  | .hbm, ⟨70, _⟩ => ⟨S_, .i32⟩
  | .hbm, ⟨71, _⟩ => ⟨S2048x2048, .i32⟩
  | .hbm, ⟨72, _⟩ => ⟨S2048x2048, .i1⟩
  | .hbm, ⟨73, _⟩ => ⟨S_, .i32⟩
  | .hbm, ⟨74, _⟩ => ⟨S2048x2048, .i32⟩
  | .hbm, ⟨75, _⟩ => ⟨S2048x2048, .i32⟩
  | .hbm, ⟨76, _⟩ => ⟨S2048x2048, .i32⟩
  | .hbm, ⟨77, _⟩ => ⟨S2048x2048x1, .i32⟩
  | .hbm, ⟨78, _⟩ => ⟨S2048x2048x2048, .f32⟩
  | .hbm, ⟨79, _⟩ => ⟨S2048x2048x2048, .i1⟩
  | .hbm, ⟨80, _⟩ => ⟨S2048x2048x2048, .f32⟩
  | .hbm, ⟨81, _⟩ => ⟨S2048x8x2048, .f32⟩
  | .hbm, ⟨82, _⟩ => ⟨S8x2048x2048, .f32⟩
  | .hbm, ⟨83, _⟩ => ⟨S2048, .f32⟩
  | .hbm, ⟨84, _⟩ => ⟨S1x1x2048, .f32⟩
  | .hbm, ⟨85, _⟩ => ⟨S8x2048x2048, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_1 : Ref sig .tc := ⟨.hbm, 54, rfl⟩
abbrev main_v44 : Ref sig .tc := ⟨.hbm, 55, rfl⟩
abbrev main_v45 : Ref sig .tc := ⟨.hbm, 56, rfl⟩
abbrev main_c_2 : Ref sig .tc := ⟨.hbm, 57, rfl⟩
abbrev main_v46 : Ref sig .tc := ⟨.hbm, 58, rfl⟩
abbrev main_v47 : Ref sig .tc := ⟨.hbm, 59, rfl⟩
abbrev main_c_3 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_4 : Ref sig .tc := ⟨.hbm, 67, rfl⟩
abbrev main_v54 : Ref sig .tc := ⟨.hbm, 68, rfl⟩
abbrev main_v55 : Ref sig .tc := ⟨.hbm, 69, rfl⟩
abbrev main_c_5 : Ref sig .tc := ⟨.hbm, 70, rfl⟩
abbrev main_v56 : Ref sig .tc := ⟨.hbm, 71, rfl⟩
abbrev main_v57 : Ref sig .tc := ⟨.hbm, 72, rfl⟩
abbrev main_c_6 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call1_v0 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Kernel2.lean ====
abbrev S8x2048x2048 : Shape := ⟨3, ![8, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 15
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x2048x5632, .bf16⟩
  | .hbm, ⟨11, _⟩ => ⟨S2x2048x5632, .bf16⟩
  | .hbm, ⟨12, _⟩ => ⟨S2x5632x2048, .bf16⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8x2048x2048 : Shape := ⟨3, ![8, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S8x2048x5632 : Shape := ⟨3, ![8, 2048, 5632]⟩
abbrev S1x5632x2048 : Shape := ⟨3, ![1, 5632, 2048]⟩
abbrev S5632x2048 : Shape := ⟨2, ![5632, 2048]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S1x2048x5632, .f32⟩
  | .hbm, ⟨25, _⟩ => ⟨S2048x5632, .f32⟩
  | .hbm, ⟨26, _⟩ => ⟨S8x2048x5632, .f32⟩
  | .hbm, ⟨27, _⟩ => ⟨S8x2048x5632, .f32⟩
  | .hbm, ⟨28, _⟩ => ⟨S8x2048x5632, .f32⟩
  | .hbm, ⟨29, _⟩ => ⟨S_, .f32⟩
  | .hbm, ⟨30, _⟩ => ⟨S8x2048x5632, .f32⟩
  | .hbm, ⟨31, _⟩ => ⟨S8x2048x5632, .f32⟩
  | .hbm, ⟨32, _⟩ => ⟨S_, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S1x2048x5632, .f32⟩
  | .hbm, ⟨37, _⟩ => ⟨S2048x5632, .f32⟩
  | .hbm, ⟨38, _⟩ => ⟨S8x2048x5632, .f32⟩
  | .hbm, ⟨39, _⟩ => ⟨S8x2048x5632, .f32⟩
  | .hbm, ⟨40, _⟩ => ⟨S1x5632x2048, .f32⟩
  | .hbm, ⟨41, _⟩ => ⟨S5632x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S1x1x2048, .f32⟩
  | .hbm, ⟨58, _⟩ => ⟨S8x2048x2048, .f32⟩
  | .hbm, ⟨59, _⟩ => ⟨S8x2048x2048, .f32⟩
  | .hbm, ⟨60, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel3.lean ====
abbrev S8x2048x2048 : Shape := ⟨3, ![8, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S16384x2048 : Shape := ⟨2, ![16384, 2048]⟩
abbrev S1x2048 : Shape := ⟨2, ![1, 2048]⟩
abbrev S2048 : Shape := ⟨1, ![2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 18
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x2048, .f32⟩
  | .hbm, ⟨6, _⟩ => ⟨S16384x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x2048x5632, .bf16⟩
  | .hbm, ⟨11, _⟩ => ⟨S2x2048x5632, .bf16⟩
  | .hbm, ⟨12, _⟩ => ⟨S2x5632x2048, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16384x2048, .f32⟩
  | .hbm, ⟨17, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v21 : BitVec 1 := Scalar.cmpi .eq arg1 c10_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8x2048x2048 : Shape := ⟨3, ![8, 2048, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S8x2048x5632 : Shape := ⟨3, ![8, 2048, 5632]⟩
abbrev S1x5632x2048 : Shape := ⟨3, ![1, 5632, 2048]⟩
abbrev S5632x2048 : Shape := ⟨2, ![5632, 2048]⟩
abbrev S16384x2048 : Shape := ⟨2, ![16384, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S2x2048, .f32⟩
  | .hbm, ⟨6, _⟩ => ⟨S1x2048, .f32⟩
  | .hbm, ⟨7, _⟩ => ⟨S2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S1x2048x5632, .f32⟩
  | .hbm, ⟨25, _⟩ => ⟨S2048x5632, .f32⟩
  | .hbm, ⟨26, _⟩ => ⟨S8x2048x5632, .f32⟩
  | .hbm, ⟨27, _⟩ => ⟨S8x2048x5632, .f32⟩
  | .hbm, ⟨28, _⟩ => ⟨S8x2048x5632, .f32⟩
  | .hbm, ⟨29, _⟩ => ⟨S_, .f32⟩
  | .hbm, ⟨30, _⟩ => ⟨S8x2048x5632, .f32⟩
  | .hbm, ⟨31, _⟩ => ⟨S8x2048x5632, .f32⟩
  | .hbm, ⟨32, _⟩ => ⟨S_, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S1x2048x5632, .f32⟩
  | .hbm, ⟨37, _⟩ => ⟨S2048x5632, .f32⟩
  | .hbm, ⟨38, _⟩ => ⟨S8x2048x5632, .f32⟩
  | .hbm, ⟨39, _⟩ => ⟨S8x2048x5632, .f32⟩
  | .hbm, ⟨40, _⟩ => ⟨S1x5632x2048, .f32⟩
  | .hbm, ⟨41, _⟩ => ⟨S5632x2048, .f32⟩
  | .hbm, ⟨42, _⟩ => ⟨S8x2048x2048, .f32⟩
  | .hbm, ⟨43, _⟩ => ⟨S8x2048x2048, .f32⟩
  | .hbm, ⟨44, _⟩ => ⟨S16384x2048, .f32⟩
  | .hbm, ⟨45, _⟩ => ⟨S1x2048, .f32⟩
  | .hbm, ⟨46, _⟩ => ⟨S2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S1x1x2048, .f32⟩
  | .hbm, ⟨61, _⟩ => ⟨S8x2048x2048, .f32⟩
  | .hbm, ⟨62, _⟩ => ⟨S8x2048x2048, .f32⟩
  | .hbm, ⟨63, _⟩ => ⟨S16384x2048, .f32⟩
  | .hbm, ⟨64, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Kernel4.lean ====
abbrev S8x2048x2048 : Shape := ⟨3, ![8, 2048, 2048]⟩
abbrev S1x2048x2048 : Shape := ⟨3, ![1, 2048, 2048]⟩
abbrev S1x2048 : Shape := ⟨2, ![1, 2048]⟩
abbrev S16384x2048 : Shape := ⟨2, ![16384, 2048]⟩
abbrev S2048x2048 : Shape := ⟨2, ![2048, 2048]⟩
abbrev S2048 : Shape := ⟨1, ![2048]⟩
abbrev S512x2048 : Shape := ⟨2, ![512, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1x2048x2048, .f32⟩
  | .hbm, ⟨3, _⟩ => ⟨S1x2048, .f32⟩
  | .hbm, ⟨4, _⟩ => ⟨S8x2048x2048, .bf16⟩
  | .hbm, ⟨5, _⟩ => ⟨S16384x2048, .bf16⟩
  | .hbm, ⟨6, _⟩ => ⟨S16384x2048, .f32⟩
  | .hbm, ⟨7, _⟩ => ⟨S2048x2048, .f32⟩
  | .hbm, ⟨8, _⟩ => ⟨S2048x2048, .bf16⟩
  | .hbm, ⟨9, _⟩ => ⟨S2048, .f32⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8x2048x2048 : Shape := ⟨3, ![8, 2048, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1x2048x2048, .f32⟩
  | .hbm, ⟨3, _⟩ => ⟨S1x2048, .f32⟩
  | .hbm, ⟨4, _⟩ => ⟨S2048x2048, .f32⟩
  | .hbm, ⟨5, _⟩ => ⟨S8x2048x2048, .f32⟩
  | .hbm, ⟨6, _⟩ => ⟨S2048, .f32⟩
  | .hbm, ⟨7, _⟩ => ⟨S1x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S8x2048x2048 : Shape := ⟨3, ![8, 2048, 2048]⟩
abbrev S1x2048 : Shape := ⟨2, ![1, 2048]⟩
abbrev S1x2048x2048 : Shape := ⟨3, ![1, 2048, 2048]⟩
abbrev S16384x2048 : Shape := ⟨2, ![16384, 2048]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048x2048, .f32⟩
  | .hbm, ⟨13, _⟩ => ⟨S2048x2048, .bf16⟩
  | .hbm, ⟨14, _⟩ => ⟨S2048, .f32⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S8x2048x2048 : Shape := ⟨3, ![8, 2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x2048 : Shape := ⟨2, ![2048, 2048]⟩
abbrev S16384x2048 : Shape := ⟨2, ![16384, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S1x2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S1x1x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S2048x2048, .f32⟩
  | .hbm, ⟨47, _⟩ => ⟨S8x2048x2048, .f32⟩
  | .hbm, ⟨48, _⟩ => ⟨S2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Proof.KerHost.lean ====
module

public import proofs.«01_k».proof.Proof.Gen.KernelIdeal.Value
public import Idealize.ShloMosaic.Lib.Pointwise

@[expose] public section

set_option maxRecDepth 16384

noncomputable section

/-! What the host computes before the kernel is called: the cosine and sine tables, the filter's spectra and the
    kernel's other operands, each as a function of the arguments and read at an index. -/

namespace Cert.Proof.KerHost

open Cert.KernelIdeal Cert.KernelIdeal.Gen Idealize.ShloMosaic Idealize.ShloMosaic.StableHlo

def piA : FVec Ideal S_ .f32 := Host.atan2 (constant S_ .f32 0x00000000#32) (constant S_ .f32 0xBF800000#32)
def colA : FVec Ideal S512x512 .f32 := sitofp .f32 (iotaInDim S512x512 32 1)
/-- Row `f`'s step, `(f + 1/2) π / 512`. -/
def stepA : FVec Ideal S512x512 .f32 :=
  mulf (addf (sitofp .f32 (iotaInDim S512x512 32 0)) (broadcastInDim S512x512 ![] bcast_S_S512x512 (constant S_ .f32 0x3F000000#32)))
    (broadcastInDim S512x512 ![] bcast_S_S512x512 (mulf piA (constant S_ .f32 0x3B000000#32)))
def angA : FVec Ideal S512x512 .f32 := mulf stepA colA
def angN : FVec Ideal S512x512 .f32 := mulf stepA (subf colA (broadcastInDim S512x512 ![] bcast_S_S512x512 (constant S_ .f32 0x44000000#32)))
/-- Cosines over negated sines. -/
def stack (x : FVec Ideal S512x512 .f32) : FVec Ideal S1024x512 .f32 :=
  concatenate S1024x512 0 [⟨S512x512, Host.cos x⟩, ⟨S512x512, Host.negf (Host.sin x)⟩] concatenates_S512x512_S512x512_S1024x512_d0
def fwdA : FVec Ideal S1024x512 .bf16 := truncf .bf16 (stack angA) bitsLt_bf16_f32
def enegA : FVec Ideal S1024x512 .bf16 := truncf .bf16 (select
  (cmpi .eq (iotaInDim S1024x512 32 1) (broadcastInDim S1024x512 ![] bcast_S_S1024x512 (constantI S_ 32 0#32)))
  (broadcastInDim S1024x512 ![] bcast_S_S1024x512 (constant S_ .f32 0x00000000#32)) (stack angN)) bitsLt_bf16_f32
def invA : FVec Ideal S512x1024 .bf16 := truncf .bf16 (mulf
  (concatenate S512x1024 1 [⟨S512x512, transpose S512x512 [1, 0] (Host.cos angA) transposes_S512x512_S512x512_1_0⟩,
    ⟨S512x512, Host.negf (transpose S512x512 [1, 0] (Host.sin angA) transposes_S512x512_S512x512_1_0)⟩] concatenates_S512x512_S512x512_S512x1024_d1)
  (broadcastInDim S512x1024 ![] bcast_S_S512x1024 (constant S_ .f32 0x3B000000#32))) bitsLt_bf16_f32

/-- The filter's lags in order: a zero row, the backward filter from its last tap down, the forward filter. -/
def lagsA (k : FVec Ideal S2048x4096 .f32) : FVec Ideal S4096x2048 .f32 :=
  concatenate S4096x2048 0 [⟨S1x2048, broadcastInDim S1x2048 ![] bcast_S_S1x2048 (constant S_ .f32 0x00000000#32)⟩,
    ⟨S2047x2048, Host.reverse [0] (extractStridedSlice S2047x2048 ![1, 2048] k slices_S2048x4096_S2047x2048_1_2048)⟩,
    ⟨S2048x2048, extractStridedSlice S2048x2048 ![0, 0] k slices_S2048x4096_S2048x2048_0_0⟩] concatenates_S1x2048_S2047x2048_S2048x2048_S4096x2048_d0
def blocksA (k : FVec Ideal S2048x4096 .f32) : FVec Ideal S8x512x2048 .f32 :=
  shapeCast S8x512x2048 (extf .f32 (truncf .bf16 (lagsA k) bitsLt_bf16_f32 : FVec Ideal S4096x2048 .bf16) bitsLt_bf16_f32 : FVec Ideal S4096x2048 .f32) shapeCasts_S4096x2048_S8x512x2048
/-- A table times seven consecutive blocks of lags. -/
def timesA (o : ℕ) (h : S8x512x2048.Slices ![o, 0, 0] S7x512x2048) (e : FVec Ideal S1024x512 .bf16) (b : FVec Ideal S8x512x2048 .f32) : FVec Ideal S7x1024x2048 .f32 :=
  Host.reduceAdd (mulf
    (broadcastInDim S7x1024x512x2048 ![0, 1, 2, 3] bcast_S1x1024x512x1_S7x1024x512x2048_0_1_2_3 (broadcastInDim S1x1024x512x1 ![1, 2] bcast_S1024x512_S1x1024x512x1_1_2 (extf .f32 e bitsLt_bf16_f32)))
    (broadcastInDim S7x1024x512x2048 ![0, 1, 2, 3] bcast_S7x1x512x2048_S7x1024x512x2048_0_1_2_3 (broadcastInDim S7x1x512x2048 ![0, 2, 3] bcast_S7x512x2048_S7x1x512x2048_0_2_3 (extractStridedSlice S7x512x2048 ![o, 0, 0] b h))))
    (constant S_ .f32 0x00000000#32) reducesTo_S7x1024x512x2048_S7x1024x2048_d2 h_S_
def specA (k : FVec Ideal S2048x4096 .f32) : FVec Ideal S7x1024x2048 .f32 :=
  addf (timesA 0 slices_S8x512x2048_S7x512x2048_0_0_0 enegA (blocksA k)) (timesA 1 slices_S8x512x2048_S7x512x2048_1_0_0 fwdA (blocksA k))

section
variable (m : (ℓ : Loc nD τ sig) → Buf (Elt Ideal) ℓ) (c : Dev nD)

set_option maxHeartbeats 8000000 in
theorem fwd_eq : V m c main_v34 = fwdA := by
  unfold V hostOps0 hostOps0_1 hostOps0_2
  simp only [List.flatten_cons, List.cons_append, List.nil_append, List.flatten_nil]
  after_results
  rfl

set_option maxHeartbeats 8000000 in
theorem inv_eq : V m c main_v36 = invA := by
  unfold V hostOps0 hostOps0_1 hostOps0_2
  simp only [List.flatten_cons, List.cons_append, List.nil_append, List.flatten_nil]
  after_results
  rfl

set_option maxHeartbeats 8000000 in
theorem spec_eq : V m c main_v61 = specA (m ((c.tc : Thread nD τ).loc main_arg5)) := by
  unfold V hostOps0 hostOps0_1 hostOps0_2
  simp only [List.flatten_cons, List.cons_append, List.nil_append, List.flatten_nil]
  after_results
  rfl

set_option maxHeartbeats 8000000 in
theorem hn_eq : V m c main_v62 = (truncf .bf16 (m ((c.tc : Thread nD τ).loc main_arg0) : FVec Ideal S8x2048x2048 .f32) bitsLt_bf16_f32 : FVec Ideal S8x2048x2048 .bf16) := by
  unfold V hostOps0 hostOps0_1 hostOps0_2
  simp only [List.flatten_cons, List.cons_append, List.nil_append, List.flatten_nil]
  after_results

set_option maxHeartbeats 8000000 in
theorem w_eq : V m c main_v64 = (truncf .bf16 (shapeCast S2048x6144 (m ((c.tc : Thread nD τ).loc main_arg1)) shapeCasts_S1x2048x6144_S2048x6144 : FVec Ideal S2048x6144 .f32) bitsLt_bf16_f32 : FVec Ideal S2048x6144 .bf16) := by
  unfold V hostOps0 hostOps0_1 hostOps0_2
  simp only [List.flatten_cons, List.cons_append, List.nil_append, List.flatten_nil]
  after_results
  rfl

set_option maxHeartbeats 8000000 in
theorem b_eq : V m c main_v66 = (shapeCast S1x6144 (shapeCast S6144 (m ((c.tc : Thread nD τ).loc main_arg2)) shapeCasts_S1x6144_S6144 : FVec Ideal S6144 .f32) shapeCasts_S6144_S1x6144 : FVec Ideal S1x6144 .f32) := by
  unfold V hostOps0 hostOps0_1 hostOps0_2
  simp only [List.flatten_cons, List.cons_append, List.nil_append, List.flatten_nil]
  after_results
  rfl

set_option maxHeartbeats 8000000 in
theorem ws_eq : V m c main_v67 = (shapeCast S3x6144 (m ((c.tc : Thread nD τ).loc main_arg3)) shapeCasts_S1x3x6144_S3x6144 : FVec Ideal S3x6144 .f32) := by
  unfold V hostOps0 hostOps0_1 hostOps0_2
  simp only [List.flatten_cons, List.cons_append, List.nil_append, List.flatten_nil]
  after_results
  rfl

set_option maxHeartbeats 8000000 in
theorem bs_eq : V m c main_v69 = (shapeCast S1x6144 (shapeCast S6144 (m ((c.tc : Thread nD τ).loc main_arg4)) shapeCasts_S1x6144_S6144 : FVec Ideal S6144 .f32) shapeCasts_S6144_S1x6144 : FVec Ideal S1x6144 .f32) := by
  unfold V hostOps0 hostOps0_1 hostOps0_2
  simp only [List.flatten_cons, List.cons_append, List.nil_append, List.flatten_nil]
  after_results
  rfl

set_option maxHeartbeats 8000000 in
theorem skip_eq : V m c main_v71 = (shapeCast S1x2048 (shapeCast S2048 (m ((c.tc : Thread nD τ).loc main_arg6)) shapeCasts_S1x2048_S2048 : FVec Ideal S2048 .f32) shapeCasts_S2048_S1x2048 : FVec Ideal S1x2048 .f32) := by
  unfold V hostOps0 hostOps0_1 hostOps0_2
  simp only [List.flatten_cons, List.cons_append, List.nil_append, List.flatten_nil]
  after_results
  rfl

end

end Cert.Proof.KerHost

end
-- ==== Proof.BodyRead.lean ====
module

public import proofs.«01_k».proof.Proof.Gen.KernelIdeal.Frame
public import Idealize.ShloMosaic.Lib.Pointwise
public import Idealize.ShloMosaic.Lib.Pipeline.Value

@[expose] public section

set_option maxRecDepth 16384

noncomputable section

/-! How a block of a buffer is read: after stores that all agree with one function of the index, and out of a
    window's buffer holding given contents. -/

namespace Cert.Proof.Body

open Cert.KernelIdeal Cert.KernelIdeal.Gen Idealize.ShloMosaic Idealize.ShloMosaic.TcCoe

/-- A load after stores that agree with `G` and cover what is loaded reads `G`. -/
theorem readCov_of {sig : RefSig} {κ : Kind} {sp : Space} {S : Shape} {e : EltTy} (v : View sig κ sp S e)
    (L : List (View.Piece (Elt Ideal) S e)) (G : S.Idx → Elt Ideal e)
    (hL : ∀ q ∈ L, ∀ y : q.1.shape.Idx, q.2 y = G (q.1.emb y)) (B : LoadRect S)
    (hc : ∀ j, ∃ q ∈ L, B.idx j ∈ q.1.set) : v.readCov L B = fun j => G (B.idx j) := by
  rw [View.readCov_eq_canon']
  funext j
  exact View.canon_apply_of_pieces G L hL _ (hc j)

/-- A load out of a whole buffer that holds `x` reads `x`. -/
theorem readAt_whole {sig : RefSig} {κ : Kind} {sp : Space} {S : Shape} {e : EltTy} (m : Memref sig κ sp S e) (hm : m.IsWhole)
    (x : Vec Ideal S e) (B : LoadRect S) :
    View.readAt (Elt Ideal) m.view B (hm.unread x) = fun j => x (B.idx j) := by
  funext j
  rw [View.readAt_apply, hm.read_unread]

theorem idx3 {A B C a b c : ℕ} (p q r : ℕ) (h : ∀ k : Fin 3, (![p, q, r] : Fin 3 → ℕ) k + (![a, b, c] : Fin 3 → ℕ) k ≤ (![A, B, C] : Fin 3 → ℕ) k)
    (y : (⟨3, ![a, b, c]⟩ : Shape).Idx) (hp : p + (y 0).val < A) (hq : q + (y 1).val < B) (hr : r + (y 2).val < C) :
    (Rect.unit (s := ⟨3, ![A, B, C]⟩) ![p, q, r] ![a, b, c] h).toLoadRect.idx y
      = ix3 ⟨p + (y 0).val, hp⟩ ⟨q + (y 1).val, hq⟩ ⟨r + (y 2).val, hr⟩ := by
  funext k
  refine Fin.ext ?_
  show (![p, q, r] : Fin 3 → ℕ) k + 1 * (y k).val = _
  rw [Nat.one_mul]
  fin_cases k <;> rfl

theorem idx2 {A B a b : ℕ} (p q : ℕ) (h : ∀ k : Fin 2, (![p, q] : Fin 2 → ℕ) k + (![a, b] : Fin 2 → ℕ) k ≤ (![A, B] : Fin 2 → ℕ) k)
    (y : (⟨2, ![a, b]⟩ : Shape).Idx) (hp : p + (y 0).val < A) (hq : q + (y 1).val < B) :
    (Rect.unit (s := ⟨2, ![A, B]⟩) ![p, q] ![a, b] h).toLoadRect.idx y = ix2 ⟨p + (y 0).val, hp⟩ ⟨q + (y 1).val, hq⟩ := by
  funext k
  refine Fin.ext ?_
  show (![p, q] : Fin 2 → ℕ) k + 1 * (y k).val = _
  rw [Nat.one_mul]
  fin_cases k <;> rfl

/-- The rectangles a list of stores writes, offset and extent, each store agreeing with `G`. -/
inductive Stores {S : Shape} {e : EltTy} (G : S.Idx → Elt Ideal e) :
    List (View.Piece (Elt Ideal) S e) → List ((Fin S.rank → ℕ) × (Fin S.rank → ℕ)) → Prop
  | nil : Stores G [] []
  | cons (off size : Fin S.rank → ℕ) (inb) (w : (Rect.unit (s := S) off size inb).shape.Idx → Elt Ideal e) (L l)
      (hw : ∀ y : (Rect.unit (s := S) off size inb).shape.Idx, w y = G ((Rect.unit (s := S) off size inb).emb y))
      (h : Stores G L l) : Stores G (⟨Rect.unit (s := S) off size inb, w⟩ :: L) ((off, size) :: l)

theorem Stores.agree {S : Shape} {e : EltTy} {G : S.Idx → Elt Ideal e} {L l} (h : Stores G L l) :
    ∀ q ∈ L, ∀ y : q.1.shape.Idx, q.2 y = G (q.1.emb y) := by
  induction h with
  | nil => intro q hq; cases hq
  | cons off size inb w L l hw h ih =>
    intro q hq
    rcases List.mem_cons.1 hq with rfl | hq
    · exact hw
    · exact ih q hq

theorem Stores.cover {S : Shape} {e : EltTy} {G : S.Idx → Elt Ideal e} {L l} (h : Stores G L l) (i : S.Idx) :
    (∃ p ∈ l, ∀ k, p.1 k ≤ (i k).val ∧ (i k).val < p.1 k + p.2 k) → ∃ q ∈ L, i ∈ q.1.set := by
  induction h with
  | nil => rintro ⟨p, hp, -⟩; cases hp
  | cons off size inb w L l hw h ih =>
    rintro ⟨p, hp, hi⟩
    rcases List.mem_cons.1 hp with rfl | hp
    · exact ⟨_, List.mem_cons_self, (Rect.mem_set_unit (inb := inb)).2 hi⟩
    · obtain ⟨q, hq, hiq⟩ := ih ⟨p, hp, hi⟩
      exact ⟨q, List.mem_cons_of_mem _ hq, hiq⟩

/-- A load after such stores reads `G`, if each of its elements lies in one of the rectangles. -/
theorem Stores.read {S : Shape} {e : EltTy} {G : S.Idx → Elt Ideal e} {L l} (h : Stores G L l) {sig : RefSig} {κ : Kind} {sp : Space}
    (v : View sig κ sp S e) (B : LoadRect S) (hB : ∀ j, ∃ p ∈ l, ∀ k, p.1 k ≤ (B.idx j k).val ∧ (B.idx j k).val < p.1 k + p.2 k) :
    v.readCov L B = fun j => G (B.idx j) :=
  readCov_of v L G h.agree B fun j => h.cover _ (hB j)

theorem Stores.drop {S : Shape} {e : EltTy} {G : S.Idx → Elt Ideal e} {L l} (h : Stores G L l) (n : ℕ) : Stores G (L.drop n) (l.drop n) := by
  induction h generalizing n with
  | nil => simpa using Stores.nil
  | cons off size inb w L l hw h ih =>
    cases n with
    | zero => exact Stores.cons off size inb w L l hw h
    | succ n => exact ih n

end Cert.Proof.Body

end

end
-- ==== Proof.BodySlab.lean ====
module

public import proofs.«01_k».proof.Proof.BodyRead

@[expose] public section

set_option maxRecDepth 16384

noncomputable section

/-! One slab of sixteen frequencies: the complex products of the four filter blocks with the four spectra of the
    signal's blocks, summed. -/

namespace Cert.Proof.Body

open Cert.KernelIdeal Cert.KernelIdeal.Gen Idealize.ShloMosaic Idealize.ShloMosaic.TcCoe

/-- The filter block that takes signal block `b` to output block `a`. -/
def gi (a b : Fin 4) : Fin 7 := ⟨a.val + 3 - b.val, by omega⟩
/-- The row of a spectrum's cosine part. -/
def lo (f : Fin 512) : Fin 1024 := ⟨f.val, by omega⟩
/-- The row of a spectrum's sine part. -/
def hi (f : Fin 512) : Fin 1024 := ⟨f.val + 512, by omega⟩

variable (PH : S4x1024x256.Idx → EReal) (g : Vec Ideal S7x1024x256 .f32)

/-- Real part of one product. -/
def tre (a b : Fin 4) (f : Fin 512) (d : Fin 256) : EReal :=
  g (ix3 (gi a b) (lo f) d) * PH (ix3 b (lo f) d) - g (ix3 (gi a b) (hi f) d) * PH (ix3 b (hi f) d)
/-- Imaginary part of one product. -/
def tim (a b : Fin 4) (f : Fin 512) (d : Fin 256) : EReal :=
  g (ix3 (gi a b) (lo f) d) * PH (ix3 b (hi f) d) + g (ix3 (gi a b) (hi f) d) * PH (ix3 b (lo f) d)
/-- Real part of an output block's spectrum. -/
def yre (a : Fin 4) (f : Fin 512) (d : Fin 256) : EReal :=
  tre PH g a 0 f d + tre PH g a 1 f d + tre PH g a 2 f d + tre PH g a 3 f d
/-- Imaginary part of an output block's spectrum. -/
def yim (a : Fin 4) (f : Fin 512) (d : Fin 256) : EReal :=
  tim PH g a 0 f d + tim PH g a 1 f d + tim PH g a 2 f d + tim PH g a 3 f d
/-- The output blocks' spectra, cosine rows first. -/
def Y (i : S4x1024x256.Idx) : EReal :=
  if h : (i 1).val < 512 then yre PH g (i 0) ⟨(i 1).val, h⟩ (i 2)
  else yim PH g (i 0) ⟨(i 1).val - 512, by have : (i 1).val < 1024 := (i 1).isLt; omega⟩ (i 2)

theorem Y_lo (i : S4x1024x256.Idx) (a : Fin 4) (f : Fin 512) (d : Fin 256) (h : i = ix3 a (lo f) d) : Y PH g i = yre PH g a f d := by
  subst h
  exact dif_pos f.isLt

theorem Y_hi (i : S4x1024x256.Idx) (a : Fin 4) (f : Fin 512) (d : Fin 256) (h : i = ix3 a (hi f) d) : Y PH g i = yim PH g a f d := by
  subst h
  refine (dif_neg (show ¬ f.val + 512 < 512 by omega)).trans ?_
  show yim PH g a ⟨f.val + 512 - 512, _⟩ d = _
  congr 1

section
variable {sig : RefSig} {κ : Kind} {sp : Space} (v : View sig κ sp S4x1024x256 .f32) (L : List (View.Piece (Elt Ideal) S4x1024x256 .f32))
  {sig' : RefSig} {κ' : Kind} {sp' : Space} (m : Memref sig' κ' sp' S7x1024x256 .f32) (hm : m.IsWhole)

/-- Sixteen rows of a filter block, as the body loads them. -/
abbrev gl (n r : ℕ) (h : ∀ k : Fin 3, (![n, r, 0] : Fin 3 → ℕ) k + S1x16x256.size k ≤ S7x1024x256.size k) : FVec Ideal S16x256 .f32 :=
  shapeCast S16x256 (View.readAt (Elt Ideal) m.view (Rect.unit (s := S7x1024x256) ![n, r, 0] S1x16x256.size h).toLoadRect (hm.unread g)) shapeCasts_S1x16x256_S16x256
/-- Sixteen rows of a signal block's spectrum, as the body loads them. -/
abbrev pl (n r : ℕ) (h : ∀ k : Fin 3, (![n, r, 0] : Fin 3 → ℕ) k + S1x16x256.size k ≤ S4x1024x256.size k) : FVec Ideal S16x256 .f32 :=
  shapeCast S16x256 (v.readCov L (Rect.unit (s := S4x1024x256) ![n, r, 0] S1x16x256.size h).toLoadRect) shapeCasts_S1x16x256_S16x256

omit PH g in
theorem cast16 (x : FVec Ideal S1x16x256 .f32) (q : Fin 16) (d : Fin 256) :
    shapeCast S16x256 x shapeCasts_S1x16x256_S16x256 (ix2 q d) = x (ix3 0 q d) := by
  pointwise

theorem gl_apply (n r : ℕ) (h : ∀ k : Fin 3, (![n, r, 0] : Fin 3 → ℕ) k + S1x16x256.size k ≤ S7x1024x256.size k)
    (q : Fin 16) (d : Fin 256) (n' : Fin 7) (r' : Fin 1024) (hn : n = n'.val) (hr : r + q.val = r'.val) :
    gl g m hm n r h (ix2 q d) = g (ix3 n' r' d) := by
  obtain ⟨n', ln⟩ := n'; obtain ⟨r', lr⟩ := r'; dsimp only at hn hr; subst hn; subst hr
  refine (cast16 _ q d).trans ((congrFun (readAt_whole m hm g _) _).trans (congrArg g ?_))
  refine (idx3 (A := 7) (B := 1024) (C := 256) (a := 1) (b := 16) (c := 256) n r 0 h (ix3 0 q d) (by show n + 0 < 7; omega) (by show r + q.val < 1024; omega) (by show 0 + d.val < 256; omega)).trans ?_
  show ix3 _ _ _ = ix3 _ _ _
  congr 1
  exact Fin.ext (Nat.zero_add _)

variable (h3 : ∀ B, v.readCov L B = fun j => PH (B.idx j))
include h3

theorem pl_apply (n r : ℕ) (h : ∀ k : Fin 3, (![n, r, 0] : Fin 3 → ℕ) k + S1x16x256.size k ≤ S4x1024x256.size k)
    (q : Fin 16) (d : Fin 256) (n' : Fin 4) (r' : Fin 1024) (hn : n = n'.val) (hr : r + q.val = r'.val) :
    pl v L n r h (ix2 q d) = PH (ix3 n' r' d) := by
  obtain ⟨n', ln⟩ := n'; obtain ⟨r', lr⟩ := r'; dsimp only at hn hr; subst hn; subst hr
  refine (cast16 _ q d).trans ((congrFun (h3 _) _).trans (congrArg PH ?_))
  refine (idx3 (A := 4) (B := 1024) (C := 256) (a := 1) (b := 16) (c := 256) n r 0 h (ix3 0 q d) (by show n + 0 < 4; omega) (by show r + q.val < 1024; omega) (by show 0 + d.val < 256; omega)).trans ?_
  show ix3 _ _ _ = ix3 _ _ _
  congr 1
  exact Fin.ext (Nat.zero_add _)

omit h3 PH g in
theorem castUp (w : FVec Ideal S16x256 .f32) (y : S1x16x256.Idx) :
    (shapeCast S1x16x256 (truncf .bf16 w bitsLt_bf16_f32 : FVec Ideal S16x256 .bf16) shapeCasts_S16x256_S1x16x256 : FVec Ideal S1x16x256 .bf16) y
      = w (ix2 (y 1) (y 2)) := by
  pointwise

/-- The value of one slab's stored real part. -/
theorem slab_re (a o : ℕ) (ha : a < 4) (ho : o + 16 ≤ 512) (inb) (i0 i0' i1 i1' i2 i2' i3 i3' j0 j0' j1 j1' j2 j2' j3 j3')
    (y : (Rect.unit (s := S4x1024x256) ![a, o, 0] S1x16x256.size inb).shape.Idx) :
    (shapeCast S1x16x256 (truncf .bf16 (addf (addf (addf
        (subf (mulf (gl g m hm (a + 3 - 0) o i0) (pl v L 0 o j0)) (mulf (gl g m hm (a + 3 - 0) (o + 512) i0') (pl v L 0 (o + 512) j0')))
        (subf (mulf (gl g m hm (a + 3 - 1) o i1) (pl v L 1 o j1)) (mulf (gl g m hm (a + 3 - 1) (o + 512) i1') (pl v L 1 (o + 512) j1'))))
        (subf (mulf (gl g m hm (a + 3 - 2) o i2) (pl v L 2 o j2)) (mulf (gl g m hm (a + 3 - 2) (o + 512) i2') (pl v L 2 (o + 512) j2'))))
        (subf (mulf (gl g m hm (a + 3 - 3) o i3) (pl v L 3 o j3)) (mulf (gl g m hm (a + 3 - 3) (o + 512) i3') (pl v L 3 (o + 512) j3'))))
      bitsLt_bf16_f32 : FVec Ideal S16x256 .bf16) shapeCasts_S16x256_S1x16x256 : FVec Ideal S1x16x256 .bf16) y
      = Y PH g ((Rect.unit (s := S4x1024x256) ![a, o, 0] S1x16x256.size inb).emb y) := by
  have y0 : (y 0).val < 1 := (y 0).isLt
  have y1 : (y 1).val < 16 := (y 1).isLt
  have y2 : (y 2).val < 256 := (y 2).isLt
  have e := idx3 (A := 4) (B := 1024) (C := 256) a (o) 0 inb y (by omega) (by omega) (by omega)
  refine (castUp _ y).trans ((?_ : _ = yre PH g ⟨a, ha⟩ ⟨o + (y 1).val, by omega⟩ (y 2)).trans (Y_lo PH g _ _ _ _ (e.trans ?_)).symm)
  · have G := fun n r h n' r' hn hr => gl_apply g m hm n r h (y 1) (y 2) n' r' hn hr
    have P := fun n r h n' r' hn hr => pl_apply PH v L h3 n r h (y 1) (y 2) n' r' hn hr
    simp only [addf_apply, subf_apply, mulf_apply, yre, tre]
    rw [G _ _ i0 (gi ⟨a, ha⟩ 0) (lo ⟨o + (y 1).val, by omega⟩) rfl rfl, G _ _ i0' (gi ⟨a, ha⟩ 0) (hi ⟨o + (y 1).val, by omega⟩) rfl (Nat.add_right_comm _ _ _),
      G _ _ i1 (gi ⟨a, ha⟩ 1) (lo ⟨o + (y 1).val, by omega⟩) rfl rfl, G _ _ i1' (gi ⟨a, ha⟩ 1) (hi ⟨o + (y 1).val, by omega⟩) rfl (Nat.add_right_comm _ _ _),
      G _ _ i2 (gi ⟨a, ha⟩ 2) (lo ⟨o + (y 1).val, by omega⟩) rfl rfl, G _ _ i2' (gi ⟨a, ha⟩ 2) (hi ⟨o + (y 1).val, by omega⟩) rfl (Nat.add_right_comm _ _ _),
      G _ _ i3 (gi ⟨a, ha⟩ 3) (lo ⟨o + (y 1).val, by omega⟩) rfl rfl, G _ _ i3' (gi ⟨a, ha⟩ 3) (hi ⟨o + (y 1).val, by omega⟩) rfl (Nat.add_right_comm _ _ _),
      P _ _ j0 0 (lo ⟨o + (y 1).val, by omega⟩) rfl rfl, P _ _ j0' 0 (hi ⟨o + (y 1).val, by omega⟩) rfl (Nat.add_right_comm _ _ _),
      P _ _ j1 1 (lo ⟨o + (y 1).val, by omega⟩) rfl rfl, P _ _ j1' 1 (hi ⟨o + (y 1).val, by omega⟩) rfl (Nat.add_right_comm _ _ _),
      P _ _ j2 2 (lo ⟨o + (y 1).val, by omega⟩) rfl rfl, P _ _ j2' 2 (hi ⟨o + (y 1).val, by omega⟩) rfl (Nat.add_right_comm _ _ _),
      P _ _ j3 3 (lo ⟨o + (y 1).val, by omega⟩) rfl rfl, P _ _ j3' 3 (hi ⟨o + (y 1).val, by omega⟩) rfl (Nat.add_right_comm _ _ _)]
    rfl
  · show ix3 _ _ _ = ix3 _ _ _
    congr 1 <;> refine Fin.ext ?_
    · show a + (y 0).val = a; omega
    · show 0 + (y 2).val = (y 2).val; omega

/-- The value of one slab's stored imaginary part. -/
theorem slab_im (a o : ℕ) (ha : a < 4) (ho : o + 16 ≤ 512) (inb) (i0 i0' i1 i1' i2 i2' i3 i3' j0 j0' j1 j1' j2 j2' j3 j3')
    (y : (Rect.unit (s := S4x1024x256) ![a, o + 512, 0] S1x16x256.size inb).shape.Idx) :
    (shapeCast S1x16x256 (truncf .bf16 (addf (addf (addf
        (addf (mulf (gl g m hm (a + 3 - 0) o i0) (pl v L 0 (o + 512) j0')) (mulf (gl g m hm (a + 3 - 0) (o + 512) i0') (pl v L 0 o j0)))
        (addf (mulf (gl g m hm (a + 3 - 1) o i1) (pl v L 1 (o + 512) j1')) (mulf (gl g m hm (a + 3 - 1) (o + 512) i1') (pl v L 1 o j1))))
        (addf (mulf (gl g m hm (a + 3 - 2) o i2) (pl v L 2 (o + 512) j2')) (mulf (gl g m hm (a + 3 - 2) (o + 512) i2') (pl v L 2 o j2))))
        (addf (mulf (gl g m hm (a + 3 - 3) o i3) (pl v L 3 (o + 512) j3')) (mulf (gl g m hm (a + 3 - 3) (o + 512) i3') (pl v L 3 o j3))))
      bitsLt_bf16_f32 : FVec Ideal S16x256 .bf16) shapeCasts_S16x256_S1x16x256 : FVec Ideal S1x16x256 .bf16) y
      = Y PH g ((Rect.unit (s := S4x1024x256) ![a, o + 512, 0] S1x16x256.size inb).emb y) := by
  have y0 : (y 0).val < 1 := (y 0).isLt
  have y1 : (y 1).val < 16 := (y 1).isLt
  have y2 : (y 2).val < 256 := (y 2).isLt
  have e := idx3 (A := 4) (B := 1024) (C := 256) a (o + 512) 0 inb y (by omega) (by omega) (by omega)
  refine (castUp _ y).trans ((?_ : _ = yim PH g ⟨a, ha⟩ ⟨o + (y 1).val, by omega⟩ (y 2)).trans (Y_hi PH g _ _ _ _ (e.trans ?_)).symm)
  · have G := fun n r h n' r' hn hr => gl_apply g m hm n r h (y 1) (y 2) n' r' hn hr
    have P := fun n r h n' r' hn hr => pl_apply PH v L h3 n r h (y 1) (y 2) n' r' hn hr
    simp only [addf_apply, subf_apply, mulf_apply, yim, tim]
    rw [G _ _ i0 (gi ⟨a, ha⟩ 0) (lo ⟨o + (y 1).val, by omega⟩) rfl rfl, G _ _ i0' (gi ⟨a, ha⟩ 0) (hi ⟨o + (y 1).val, by omega⟩) rfl (Nat.add_right_comm _ _ _),
      G _ _ i1 (gi ⟨a, ha⟩ 1) (lo ⟨o + (y 1).val, by omega⟩) rfl rfl, G _ _ i1' (gi ⟨a, ha⟩ 1) (hi ⟨o + (y 1).val, by omega⟩) rfl (Nat.add_right_comm _ _ _),
      G _ _ i2 (gi ⟨a, ha⟩ 2) (lo ⟨o + (y 1).val, by omega⟩) rfl rfl, G _ _ i2' (gi ⟨a, ha⟩ 2) (hi ⟨o + (y 1).val, by omega⟩) rfl (Nat.add_right_comm _ _ _),
      G _ _ i3 (gi ⟨a, ha⟩ 3) (lo ⟨o + (y 1).val, by omega⟩) rfl rfl, G _ _ i3' (gi ⟨a, ha⟩ 3) (hi ⟨o + (y 1).val, by omega⟩) rfl (Nat.add_right_comm _ _ _),
      P _ _ j0 0 (lo ⟨o + (y 1).val, by omega⟩) rfl rfl, P _ _ j0' 0 (hi ⟨o + (y 1).val, by omega⟩) rfl (Nat.add_right_comm _ _ _),
      P _ _ j1 1 (lo ⟨o + (y 1).val, by omega⟩) rfl rfl, P _ _ j1' 1 (hi ⟨o + (y 1).val, by omega⟩) rfl (Nat.add_right_comm _ _ _),
      P _ _ j2 2 (lo ⟨o + (y 1).val, by omega⟩) rfl rfl, P _ _ j2' 2 (hi ⟨o + (y 1).val, by omega⟩) rfl (Nat.add_right_comm _ _ _),
      P _ _ j3 3 (lo ⟨o + (y 1).val, by omega⟩) rfl rfl, P _ _ j3' 3 (hi ⟨o + (y 1).val, by omega⟩) rfl (Nat.add_right_comm _ _ _)]
    rfl
  · show ix3 _ _ _ = ix3 _ _ _
    congr 1 <;> refine Fin.ext ?_
    · show a + (y 0).val = a; omega
    · show o + 512 + (y 1).val = o + (y 1).val + 512; omega
    · show 0 + (y 2).val = (y 2).val; omega

end

/-- The slabs a list of stores holds, each agreeing with `G`, and where each one starts. -/
inductive Slabs {e : EltTy} (G : S4x1024x256.Idx → Elt Ideal e) : List (View.Piece (Elt Ideal) S4x1024x256 e) → List (ℕ × ℕ) → Prop
  | nil : Slabs G [] []
  | cons (a r : ℕ) (inb) (w : Vec Ideal S1x16x256 e) (L l) (hw : ∀ y : (Rect.unit (s := S4x1024x256) ![a, r, 0] S1x16x256.size inb).shape.Idx, w y = G ((Rect.unit (s := S4x1024x256) ![a, r, 0] S1x16x256.size inb).emb y))
      (h : Slabs G L l) : Slabs G (⟨Rect.unit (s := S4x1024x256) ![a, r, 0] S1x16x256.size inb, w⟩ :: L) ((a, r) :: l)

theorem Slabs.agree {e : EltTy} {G : S4x1024x256.Idx → Elt Ideal e} {L l} (h : Slabs G L l) :
    ∀ q ∈ L, ∀ y : q.1.shape.Idx, q.2 y = G (q.1.emb y) := by
  induction h with
  | nil => intro q hq; cases hq
  | cons a r inb w L l hw h ih =>
    intro q hq
    rcases List.mem_cons.1 hq with rfl | hq
    · exact hw
    · exact ih q hq

theorem Slabs.cover {e : EltTy} {G : S4x1024x256.Idx → Elt Ideal e} {L l} (h : Slabs G L l) :
    ∀ i : S4x1024x256.Idx, ((i 0).val, (i 1).val / 16 * 16) ∈ l → ∃ q ∈ L, i ∈ q.1.set := by
  induction h with
  | nil => intro i hi; cases hi
  | cons a r inb w L l hw h ih =>
    intro i hi
    rcases List.mem_cons.1 hi with e | hi
    · refine ⟨_, List.mem_cons_self, (Rect.mem_set_unit (inb := inb)).2 ?_⟩
      have e0 := congrArg Prod.fst e; have e1 := congrArg Prod.snd e
      dsimp only at e0 e1
      have h2 : (i 2).val < 256 := (i 2).isLt
      intro k
      fin_cases k
      · show a ≤ (i 0).val ∧ (i 0).val < a + 1; omega
      · show r ≤ (i 1).val ∧ (i 1).val < r + 16; omega
      · show 0 ≤ (i 2).val ∧ (i 2).val < 0 + 256; omega
    · obtain ⟨q, hq, hiq⟩ := ih i hi
      exact ⟨q, List.mem_cons_of_mem _ hq, hiq⟩

/-- A load after such slabs, if they reach everywhere, reads `G`. -/
theorem Slabs.read {e : EltTy} {G : S4x1024x256.Idx → Elt Ideal e} {L l} (h : Slabs G L l)
    (hl : ∀ a : Fin 4, ∀ s : Fin 64, (a.val, s.val * 16) ∈ l) {sig : RefSig} {κ : Kind} {sp : Space} (v : View sig κ sp S4x1024x256 e)
    (B : LoadRect S4x1024x256) : v.readCov L B = fun j => G (B.idx j) :=
  readCov_of v L G h.agree B fun j =>
    h.cover _ (hl ⟨(B.idx j 0).val, (B.idx j 0).isLt⟩ ⟨(B.idx j 1).val / 16, by have : (B.idx j 1).val < 1024 := (B.idx j 1).isLt; omega⟩)

end Cert.Proof.Body

end

end
-- ==== Proof.BodyYh.lean ====
module

public import proofs.«01_k».proof.Proof.BodySlab

@[expose] public section

set_option maxRecDepth 16384

noncomputable section

/-! The stores into the output blocks' spectra, slab by slab. -/

namespace Cert.Proof.Body

open Cert.KernelIdeal Cert.KernelIdeal.Gen Idealize.ShloMosaic Idealize.ShloMosaic.TcCoe

variable (c : Dev nD) (i : grid0.Coords) (arg2 : Memref sig .tc .vmem S1x2048x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S3x256 .f32) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S7x1024x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S512x1024 .bf16) (harg18 : arg18.IsWhole) (arg19 : Memref sig .tc .vmem S1x2048x256 .bf16) (harg19 : arg19.IsWhole) (arg20 : Memref sig .tc .vmem S3x2048x256 .f32) (harg20 : arg20.IsWhole) (arg21 : Memref sig .tc .vmem S2048x256 .f32) (harg21 : arg21.IsWhole) (arg22 : Memref sig .tc .vmem S2048x256 .f32) (harg22 : arg22.IsWhole) (arg23 : Memref sig .tc .vmem S4x1024x256 .f32) (harg23 : arg23.IsWhole) (arg24 : Memref sig .tc .vmem S4x1024x256 .bf16) (harg24 : arg24.IsWhole)
    (x0 : Vec Ideal S1x2048x2048 .bf16) (x1 : Vec Ideal S2048x256 .bf16) (x2 : Vec Ideal S2048x256 .bf16) (x3 : Vec Ideal S2048x256 .bf16) (x4 : Vec Ideal S1x256 .f32) (x5 : Vec Ideal S1x256 .f32) (x6 : Vec Ideal S1x256 .f32) (x7 : Vec Ideal S3x256 .f32) (x8 : Vec Ideal S3x256 .f32) (x9 : Vec Ideal S3x256 .f32) (x10 : Vec Ideal S1x256 .f32) (x11 : Vec Ideal S1x256 .f32) (x12 : Vec Ideal S1x256 .f32) (x13 : Vec Ideal S7x1024x256 .f32) (x14 : Vec Ideal S1x256 .f32) (x15 : Vec Ideal S1024x512 .bf16) (x16 : Vec Ideal S512x1024 .bf16)

attribute [local irreducible] shapeCast View.readAt View.readCov mulf addf subf truncf in
set_option maxHeartbeats 16000000 in
theorem yh_slabs (PH : S4x1024x256.Idx → EReal)
    (h3 : ∀ B, arg23.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1 B = fun j => PH (B.idx j)) :
    ∃ l, Slabs (Y PH x13) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.2.1 l ∧ ∀ a : Fin 4, ∀ s : Fin 64, (a.val, s.val * 16) ∈ l := by
  refine ⟨?l, ?slabs, ?cover⟩
  case slabs =>
    iterate 128
      refine Slabs.cons _ _ _ _ _ ?_ ?_ ?_
      rotate_left
      exact slab_im PH x13 arg23.view _ arg15 harg15 (by exact h3) _ _ (by decide) (by decide) _ _ _ _ _ _ _ _ _ _ _ _ _ _ _ _ _
      refine Slabs.cons _ _ _ _ _ ?_ ?_ ?_
      rotate_left
      exact slab_re PH x13 arg23.view _ arg15 harg15 (by exact h3) _ _ (by decide) (by decide) _ _ _ _ _ _ _ _ _ _ _ _ _ _ _ _ _
    exact Slabs.nil
  case cover => decide +kernel

end Cert.Proof.Body

end

end
-- ==== Proof.BodyZ.lean ====
module

public import proofs.«01_k».proof.Proof.BodyRead

@[expose] public section

set_option maxRecDepth 16384

noncomputable section

/-! The projections' stores: every row of the three branches' buffer is its product with the branch's weights plus the bias. -/

namespace Cert.Proof.Body

open Cert.KernelIdeal Cert.KernelIdeal.Gen Idealize.ShloMosaic Idealize.ShloMosaic.TcCoe

/-- One row of a branch's projection. -/
def zv (x : Vec Ideal S1x2048x2048 .bf16) (w : Vec Ideal S2048x256 .bf16) (b : Vec Ideal S1x256 .f32) (r : Fin 2048) (d : Fin 256) : EReal :=
  (∑ k : Fin 2048, x (ix3 0 r k) * w (ix2 k d)) + b (ix2 0 d)

theorem castZ (x : FVec Ideal S1x512x2048 .bf16) (w : FVec Ideal S2048x256 .bf16) (b : FVec Ideal S1x256 .f32) (y : S1x512x256.Idx) :
    shapeCast S1x512x256 (addf (matmul dot_S512x2048_S2048x256_S512x256_1_0_0_1_n_n none
        (shapeCast S512x2048 x shapeCasts_S1x512x2048_S512x2048 : FVec Ideal S512x2048 .bf16)
        (shapeCast S2048x256 w shapeCasts_S2048x256_S2048x256) (constant S512x256 .f32 0x00000000#32))
        (broadcastTo S512x256 (shapeCast S1x256 b shapeCasts_S1x256_S1x256) broadcasts_S1x256_S512x256) : FVec Ideal S512x256 .f32) shapeCasts_S512x256_S1x512x256 y
      = (∑ k : Fin 2048, x (ix3 0 (y 1) k) * w (ix2 k (y 2))) + b (ix2 0 (y 2)) := by
  pointwise

section
variable {sig : RefSig} {κ : Kind} {sp : Space} (mx : Memref sig κ sp S1x2048x2048 .bf16) (hx : mx.IsWhole) (x : Vec Ideal S1x2048x2048 .bf16)
  (mw : Memref sig κ sp S2048x256 .bf16) (hw : mw.IsWhole) (w : Vec Ideal S2048x256 .bf16)
  (mb : Memref sig κ sp S1x256 .f32) (hb : mb.IsWhole) (b : Vec Ideal S1x256 .f32)

theorem readAt2_zero {A B : ℕ} {e : EltTy} (m : Memref sig κ sp ⟨2, ![A, B]⟩ e) (hm : m.IsWhole) (x : Vec Ideal ⟨2, ![A, B]⟩ e)
    (h : ∀ k : Fin 2, (![0, 0] : Fin 2 → ℕ) k + (![A, B] : Fin 2 → ℕ) k ≤ (![A, B] : Fin 2 → ℕ) k) :
    View.readAt (Elt Ideal) m.view (Rect.unit (s := ⟨2, ![A, B]⟩) ![0, 0] ![A, B] h).toLoadRect (hm.unread x) = x := by
  rw [readAt_whole]
  funext j
  refine congrArg x ?_
  funext k
  refine Fin.ext ?_
  show (![0, 0] : Fin 2 → ℕ) k + 1 * (j k).val = _
  fin_cases k <;> simp

/-- One stored block of projections. -/
theorem z_piece (G : S3x2048x256.Idx → EReal) (n r : ℕ) (hr : r + 512 ≤ 2048) (inb i0 i1 i2) (n' : Fin 3) (hn : n = n'.val)
    (hG : ∀ r d, G (ix3 n' r d) = zv x w b r d)
    (y : (Rect.unit (s := S3x2048x256) ![n, r, 0] S1x512x256.size inb).shape.Idx) :
    shapeCast S1x512x256 (addf (matmul dot_S512x2048_S2048x256_S512x256_1_0_0_1_n_n none
        (shapeCast S512x2048 (View.readAt (Elt Ideal) mx.view (Rect.unit (s := S1x2048x2048) ![0, r, 0] S1x512x2048.size i0).toLoadRect (hx.unread x)) shapeCasts_S1x512x2048_S512x2048 : FVec Ideal S512x2048 .bf16)
        (shapeCast S2048x256 (View.readAt (Elt Ideal) mw.view (Rect.unit (s := S2048x256) ![0, 0] S2048x256.size i1).toLoadRect (hw.unread w)) shapeCasts_S2048x256_S2048x256 : FVec Ideal S2048x256 .bf16) (constant S512x256 .f32 0x00000000#32))
        (broadcastTo S512x256 (shapeCast S1x256 (View.readAt (Elt Ideal) mb.view (Rect.unit (s := S1x256) ![0, 0] S1x256.size i2).toLoadRect (hb.unread b)) shapeCasts_S1x256_S1x256) broadcasts_S1x256_S512x256) : FVec Ideal S512x256 .f32) shapeCasts_S512x256_S1x512x256 y
      = G ((Rect.unit (s := S3x2048x256) ![n, r, 0] S1x512x256.size inb).emb y) := by
  have y0 : (y 0).val < 1 := (y 0).isLt
  have y1 : (y 1).val < 512 := (y 1).isLt
  have y2 : (y 2).val < 256 := (y 2).isLt
  have hn3 := n'.isLt
  have e := idx3 (A := 3) (B := 2048) (C := 256) n r 0 inb y (by omega) (by omega) (by omega)
  refine (castZ _ _ _ y).trans (Eq.trans ?_ (congrArg G (e.trans ?_ : _ = ix3 n' ⟨r + (y 1).val, by omega⟩ (y 2))).symm)
  · refine Eq.trans ?_ (hG _ _).symm
    unfold zv
    refine congrArg₂ (· + ·) (Finset.sum_congr rfl fun k _ => congrArg₂ (· * ·) ?_ ?_) ?_
    · refine (congrFun (readAt_whole mx hx x _) _).trans (congrArg x ?_)
      refine (idx3 (A := 1) (B := 2048) (C := 2048) (a := 1) (b := 512) (c := 2048) 0 r 0 i0 (ix3 0 (y 1) k) (by show 0 + 0 < 1; omega) (by show r + (y 1).val < 2048; omega) (by show 0 + k.val < 2048; omega)).trans ?_
      show ix3 _ _ _ = ix3 _ _ _
      congr 1
      exact Fin.ext (Nat.zero_add _)
    · exact congrFun (readAt2_zero mw hw w i1) _
    · exact congrFun (readAt2_zero mb hb b i2) _
  · show ix3 _ _ _ = ix3 _ _ _
    congr 1 <;> refine Fin.ext ?_
    · show n + (y 0).val = n'.val; omega
    · show 0 + (y 2).val = (y 2).val; omega

end

variable (c : Dev nD) (i : grid0.Coords) (arg2 : Memref sig .tc .vmem S1x2048x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S3x256 .f32) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S7x1024x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S512x1024 .bf16) (harg18 : arg18.IsWhole) (arg19 : Memref sig .tc .vmem S1x2048x256 .bf16) (harg19 : arg19.IsWhole) (arg20 : Memref sig .tc .vmem S3x2048x256 .f32) (harg20 : arg20.IsWhole) (arg21 : Memref sig .tc .vmem S2048x256 .f32) (harg21 : arg21.IsWhole) (arg22 : Memref sig .tc .vmem S2048x256 .f32) (harg22 : arg22.IsWhole) (arg23 : Memref sig .tc .vmem S4x1024x256 .f32) (harg23 : arg23.IsWhole) (arg24 : Memref sig .tc .vmem S4x1024x256 .bf16) (harg24 : arg24.IsWhole)
    (x0 : Vec Ideal S1x2048x2048 .bf16) (x1 : Vec Ideal S2048x256 .bf16) (x2 : Vec Ideal S2048x256 .bf16) (x3 : Vec Ideal S2048x256 .bf16) (x4 : Vec Ideal S1x256 .f32) (x5 : Vec Ideal S1x256 .f32) (x6 : Vec Ideal S1x256 .f32) (x7 : Vec Ideal S3x256 .f32) (x8 : Vec Ideal S3x256 .f32) (x9 : Vec Ideal S3x256 .f32) (x10 : Vec Ideal S1x256 .f32) (x11 : Vec Ideal S1x256 .f32) (x12 : Vec Ideal S1x256 .f32) (x13 : Vec Ideal S7x1024x256 .f32) (x14 : Vec Ideal S1x256 .f32) (x15 : Vec Ideal S1024x512 .bf16) (x16 : Vec Ideal S512x1024 .bf16)

/-- The three branches' projections. -/
def Z (x0 : Vec Ideal S1x2048x2048 .bf16) (x1 x2 x3 : Vec Ideal S2048x256 .bf16) (x4 x5 x6 : Vec Ideal S1x256 .f32) (i : S3x2048x256.Idx) : EReal :=
  if (i 0).val = 0 then zv x0 x1 x4 (i 1) (i 2) else if (i 0).val = 1 then zv x0 x2 x5 (i 1) (i 2) else zv x0 x3 x6 (i 1) (i 2)

set_option maxHeartbeats 4000000 in
attribute [local irreducible] shapeCast View.readAt View.readCov mulf addf subf truncf in
theorem z_stores : ∃ l, Stores (Z x0 x1 x2 x3 x4 x5 x6) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1 l ∧
    l = [(![2, 1536, 0], ![1, 512, 256]), (![1, 1536, 0], ![1, 512, 256]), (![0, 1536, 0], ![1, 512, 256]),
      (![2, 1024, 0], ![1, 512, 256]), (![1, 1024, 0], ![1, 512, 256]), (![0, 1024, 0], ![1, 512, 256]),
      (![2, 512, 0], ![1, 512, 256]), (![1, 512, 0], ![1, 512, 256]), (![0, 512, 0], ![1, 512, 256]),
      (![2, 0, 0], ![1, 512, 256]), (![1, 0, 0], ![1, 512, 256]), (![0, 0, 0], ![1, 512, 256])] := by
  refine ⟨?l, ?stores, ?starts⟩
  case stores =>
    iterate 4
      refine Stores.cons _ _ _ _ _ ?_ ?_ ?_
      rotate_left
      exact z_piece arg2 harg2 x0 arg5 harg5 x3 arg8 harg8 x6 _ _ _ (by decide) _ _ _ _ 2 rfl (fun _ _ => rfl)
      refine Stores.cons _ _ _ _ _ ?_ ?_ ?_
      rotate_left
      exact z_piece arg2 harg2 x0 arg4 harg4 x2 arg7 harg7 x5 _ _ _ (by decide) _ _ _ _ 1 rfl (fun _ _ => rfl)
      refine Stores.cons _ _ _ _ _ ?_ ?_ ?_
      rotate_left
      exact z_piece arg2 harg2 x0 arg3 harg3 x1 arg6 harg6 x4 _ _ _ (by decide) _ _ _ _ 0 rfl (fun _ _ => rfl)
    exact Stores.nil
  case starts => rfl

end Cert.Proof.Body

end

end
-- ==== Proof.BodySC.lean ====
module

public import proofs.«01_k».proof.Proof.BodyZ

@[expose] public section

set_option maxRecDepth 16384

noncomputable section

/-! The short convolution of a branch: three taps over a chunk of rows read with its neighbours. -/

namespace Cert.Proof.Body

open Cert.KernelIdeal Cert.KernelIdeal.Gen Idealize.ShloMosaic Idealize.ShloMosaic.TcCoe

/-- The short convolution's value at a row: the row before, the row, the row after, and the bias; rows outside are zero. -/
def zprev (Z : S3x2048x256.Idx → EReal) (n : Fin 3) (r : Fin 2048) (d : Fin 256) : EReal :=
  if r.val = 0 then 0 else Z (ix3 n ⟨r.val - 1, by omega⟩ d)

@[inherit_doc zprev]
def znext (Z : S3x2048x256.Idx → EReal) (n : Fin 3) (r : Fin 2048) (d : Fin 256) : EReal :=
  if h : r.val + 1 < 2048 then Z (ix3 n ⟨r.val + 1, h⟩ d) else 0

@[inherit_doc zprev]
def sc (Z : S3x2048x256.Idx → EReal) (n : Fin 3) (w : Vec Ideal S3x256 .f32) (b : Vec Ideal S1x256 .f32) (r : Fin 2048) (d : Fin 256) : EReal :=
  ((w (ix2 0 d) * zprev Z n r d + w (ix2 1 d) * Z (ix3 n r d)) + w (ix2 2 d) * znext Z n r d) + b (ix2 0 d)

/-- The 520 rows read. -/
abbrev rows520 (x : FVec Ideal S1x520x256 .f32) : FVec Ideal S520x256 .f32 := shapeCast S520x256 x shapeCasts_S1x520x256_S520x256

theorem rows520_apply (x : FVec Ideal S1x520x256 .f32) (r : Fin 520) (d : Fin 256) : rows520 x (ix2 r d) = x (ix3 0 r d) := by
  pointwise [rows520]

theorem down520 (x : FVec Ideal S520x256 .f32) (r : Fin 520) (d : Fin 256) :
    dynamicRotate 0 1#32 none x rotates_S520x256_d0 (ix2 r d) = x (ix2 ⟨(r.val + 520 - 1) % 520, by omega⟩ d) := by
  show x _ = x _
  congr 1
  funext k
  fin_cases k <;> rfl

theorem up520 (x : FVec Ideal S520x256 .f32) (r : Fin 520) (d : Fin 256) :
    dynamicRotate 0 519#32 none x rotates_S520x256_d0 (ix2 r d) = x (ix2 ⟨(r.val + 520 - 519) % 520, by omega⟩ d) := by
  show x _ = x _
  congr 1
  funext k
  fin_cases k <;> rfl

/-- The 528 rows read. -/
abbrev rows528 (x : FVec Ideal S1x528x256 .f32) : FVec Ideal S528x256 .f32 := shapeCast S528x256 x shapeCasts_S1x528x256_S528x256

theorem rows528_apply (x : FVec Ideal S1x528x256 .f32) (r : Fin 528) (d : Fin 256) : rows528 x (ix2 r d) = x (ix3 0 r d) := by
  pointwise [rows528]

theorem down528 (x : FVec Ideal S528x256 .f32) (r : Fin 528) (d : Fin 256) :
    dynamicRotate 0 1#32 none x rotates_S528x256_d0 (ix2 r d) = x (ix2 ⟨(r.val + 528 - 1) % 528, by omega⟩ d) := by
  show x _ = x _
  congr 1
  funext k
  fin_cases k <;> rfl

theorem up528 (x : FVec Ideal S528x256 .f32) (r : Fin 528) (d : Fin 256) :
    dynamicRotate 0 527#32 none x rotates_S528x256_d0 (ix2 r d) = x (ix2 ⟨(r.val + 528 - 527) % 528, by omega⟩ d) := by
  show x _ = x _
  congr 1
  funext k
  fin_cases k <;> rfl

/-- One row of the rolled block replaced by zero. -/
abbrev mask (n : BitVec 32) (x : FVec Ideal S520x256 .f32) : FVec Ideal S520x256 .f32 :=
  select (broadcastTo S520x256 (shapeCast S520x1 (cmpi .eq (iota .tc S520x1 32 [0] iota_S520x1_d0_w32) (broadcast S520x1 n) : IVec S520x1 1)
    shapeCasts_S520x1_S520x1 : IVec S520x1 1) broadcasts_S520x1_S520x256 : IVec S520x256 1)
    (broadcast S520x256 (Scalar.ofBits .f32 0x00000000#32 : Ideal .f32)) x

theorem mask_apply (n : ℕ) (hn : n < 520) (x : FVec Ideal S520x256 .f32) (r : Fin 520) (d : Fin 256) :
    mask (BitVec.ofNat 32 n) x (ix2 r d) = if r.val = n then 0 else x (ix2 r d) := by
  have h : mask (BitVec.ofNat 32 n) x (ix2 r d) = Scalar.select (IntOp.cmpi .eq (BitVec.ofNat 32 r.val) (BitVec.ofNat 32 n)) (0 : EReal) (x (ix2 r d)) := by
    pointwise [mask]
  rw [h]
  by_cases e : r.val = n
  · subst e; simp [Scalar.select, IntOp.cmpi]
  · have : (BitVec.ofNat 32 r.val) ≠ BitVec.ofNat 32 n := by
      intro hh
      have := congrArg BitVec.toNat hh
      simp at this
      omega
    have hb : (BitVec.ofNat 32 r.val == BitVec.ofNat 32 n) = false := beq_false_of_ne this
    simp [Scalar.select, IntOp.cmpi, e, hb]

/-- The three taps over 520 rows and the 512 rows of them kept, from row 0. -/
abbrev taps520_0 (zp z zn : FVec Ideal S520x256 .f32) (a b c s : FVec Ideal S1x256 .f32) : FVec Ideal S512x256 .f32 :=
  extractStridedSlice S512x256 ![0, 0] (addf (addf (addf (mulf (broadcastTo S520x256 (shapeCast S1x256 a shapeCasts_S1x256_S1x256 : FVec Ideal S1x256 .f32) broadcasts_S1x256_S520x256 : FVec Ideal S520x256 .f32) zp)
    (mulf (broadcastTo S520x256 (shapeCast S1x256 b shapeCasts_S1x256_S1x256 : FVec Ideal S1x256 .f32) broadcasts_S1x256_S520x256 : FVec Ideal S520x256 .f32) z))
    (mulf (broadcastTo S520x256 (shapeCast S1x256 c shapeCasts_S1x256_S1x256 : FVec Ideal S1x256 .f32) broadcasts_S1x256_S520x256 : FVec Ideal S520x256 .f32) zn))
    (broadcastTo S520x256 (shapeCast S1x256 s shapeCasts_S1x256_S1x256 : FVec Ideal S1x256 .f32) broadcasts_S1x256_S520x256 : FVec Ideal S520x256 .f32) : FVec Ideal S520x256 .f32) slices_S520x256_o0_0_S512x256

theorem taps520_0_apply (zp z zn : FVec Ideal S520x256 .f32) (a b c s : FVec Ideal S1x256 .f32) (q : Fin 512) (d : Fin 256) :
    taps520_0 zp z zn a b c s (ix2 q d) = ((a (ix2 0 d) * zp (ix2 ⟨0 + q.val, by omega⟩ d) + b (ix2 0 d) * z (ix2 ⟨0 + q.val, by omega⟩ d))
      + c (ix2 0 d) * zn (ix2 ⟨0 + q.val, by omega⟩ d)) + s (ix2 0 d) := by
  pointwise [taps520_0]

/-- The three taps over 520 rows and the 512 rows of them kept, from row 8. -/
abbrev taps520_8 (zp z zn : FVec Ideal S520x256 .f32) (a b c s : FVec Ideal S1x256 .f32) : FVec Ideal S512x256 .f32 :=
  extractStridedSlice S512x256 ![8, 0] (addf (addf (addf (mulf (broadcastTo S520x256 (shapeCast S1x256 a shapeCasts_S1x256_S1x256 : FVec Ideal S1x256 .f32) broadcasts_S1x256_S520x256 : FVec Ideal S520x256 .f32) zp)
    (mulf (broadcastTo S520x256 (shapeCast S1x256 b shapeCasts_S1x256_S1x256 : FVec Ideal S1x256 .f32) broadcasts_S1x256_S520x256 : FVec Ideal S520x256 .f32) z))
    (mulf (broadcastTo S520x256 (shapeCast S1x256 c shapeCasts_S1x256_S1x256 : FVec Ideal S1x256 .f32) broadcasts_S1x256_S520x256 : FVec Ideal S520x256 .f32) zn))
    (broadcastTo S520x256 (shapeCast S1x256 s shapeCasts_S1x256_S1x256 : FVec Ideal S1x256 .f32) broadcasts_S1x256_S520x256 : FVec Ideal S520x256 .f32) : FVec Ideal S520x256 .f32) slices_S520x256_o8_0_S512x256

theorem taps520_8_apply (zp z zn : FVec Ideal S520x256 .f32) (a b c s : FVec Ideal S1x256 .f32) (q : Fin 512) (d : Fin 256) :
    taps520_8 zp z zn a b c s (ix2 q d) = ((a (ix2 0 d) * zp (ix2 ⟨8 + q.val, by omega⟩ d) + b (ix2 0 d) * z (ix2 ⟨8 + q.val, by omega⟩ d))
      + c (ix2 0 d) * zn (ix2 ⟨8 + q.val, by omega⟩ d)) + s (ix2 0 d) := by
  pointwise [taps520_8]

/-- The three taps over 528 rows and the 512 rows of them kept, from row 8. -/
abbrev taps528_8 (zp z zn : FVec Ideal S528x256 .f32) (a b c s : FVec Ideal S1x256 .f32) : FVec Ideal S512x256 .f32 :=
  extractStridedSlice S512x256 ![8, 0] (addf (addf (addf (mulf (broadcastTo S528x256 (shapeCast S1x256 a shapeCasts_S1x256_S1x256 : FVec Ideal S1x256 .f32) broadcasts_S1x256_S528x256 : FVec Ideal S528x256 .f32) zp)
    (mulf (broadcastTo S528x256 (shapeCast S1x256 b shapeCasts_S1x256_S1x256 : FVec Ideal S1x256 .f32) broadcasts_S1x256_S528x256 : FVec Ideal S528x256 .f32) z))
    (mulf (broadcastTo S528x256 (shapeCast S1x256 c shapeCasts_S1x256_S1x256 : FVec Ideal S1x256 .f32) broadcasts_S1x256_S528x256 : FVec Ideal S528x256 .f32) zn))
    (broadcastTo S528x256 (shapeCast S1x256 s shapeCasts_S1x256_S1x256 : FVec Ideal S1x256 .f32) broadcasts_S1x256_S528x256 : FVec Ideal S528x256 .f32) : FVec Ideal S528x256 .f32) slices_S528x256_o8_0_S512x256

theorem taps528_8_apply (zp z zn : FVec Ideal S528x256 .f32) (a b c s : FVec Ideal S1x256 .f32) (q : Fin 512) (d : Fin 256) :
    taps528_8 zp z zn a b c s (ix2 q d) = ((a (ix2 0 d) * zp (ix2 ⟨8 + q.val, by omega⟩ d) + b (ix2 0 d) * z (ix2 ⟨8 + q.val, by omega⟩ d))
      + c (ix2 0 d) * zn (ix2 ⟨8 + q.val, by omega⟩ d)) + s (ix2 0 d) := by
  pointwise [taps528_8]

theorem sum_congr {a b c a' b' c' p q r s : EReal} (h₁ : a = a') (h₂ : b = b') (h₃ : c = c') :
    ((p * a + q * b) + r * c) + s = ((p * a' + q * b') + r * c') + s := by rw [h₁, h₂, h₃]

/-- first -/
abbrev first (x : FVec Ideal S1x520x256 .f32) (a b c s : FVec Ideal S1x256 .f32) : FVec Ideal S512x256 .f32 :=
  taps520_0 (mask 0#32 (dynamicRotate 0 1#32 none (rows520 x) rotates_S520x256_d0)) (rows520 x) (dynamicRotate 0 519#32 none (rows520 x) rotates_S520x256_d0) a b c s

theorem first_apply (Z : S3x2048x256.Idx → EReal) (n : Fin 3) (w : Vec Ideal S3x256 .f32) (bb : Vec Ideal S1x256 .f32)
    (x : FVec Ideal S1x520x256 .f32) (hx : ∀ (j : Fin 520) (d : Fin 256), x (ix3 0 j d) = Z (ix3 n ⟨0 + j.val, by omega⟩ d))
    (a b c s : FVec Ideal S1x256 .f32) (ha : ∀ d, a (ix2 0 d) = w (ix2 0 d)) (hb : ∀ d, b (ix2 0 d) = w (ix2 1 d))
    (hc : ∀ d, c (ix2 0 d) = w (ix2 2 d)) (hs : ∀ d, s (ix2 0 d) = bb (ix2 0 d)) (q : Fin 512) (d : Fin 256) :
    first x a b c s (ix2 q d) = sc Z n w bb ⟨0 + 0 + q.val, by omega⟩ d := by
  refine (taps520_0_apply _ _ _ _ _ _ _ q d).trans ?_
  rw [ha, hb, hc, hs, sc, rows520_apply, hx]
  refine sum_congr ?_ ?_ ?_
  · refine (mask_apply 0 (by omega) _ _ _).trans ?_
    by_cases h : q.val = 0
    · rw [if_pos (by show 0 + q.val = 0; omega), zprev, if_pos (by show 0 + 0 + q.val = 0; omega)]
    · rw [if_neg (by show ¬ (0 + q.val = 0); omega), zprev, if_neg (by show ¬ (0 + 0 + q.val = 0); omega), down520, rows520_apply, hx]
      refine congrArg Z (congrArg (fun r => ix3 n r d) (Fin.ext ?_))
      show 0 + (0 + q.val + 520 - 1) % 520 = 0 + 0 + q.val - 1
      omega
  · refine congrArg Z (congrArg (fun r => ix3 n r d) (Fin.ext ?_))
    show 0 + (0 + q.val) = 0 + 0 + q.val
    omega
  · rw [up520, rows520_apply, hx, znext, dif_pos (by show 0 + 0 + q.val + 1 < 2048; omega)]
    refine congrArg Z (congrArg (fun r => ix3 n r d) (Fin.ext ?_))
    show 0 + (0 + q.val + 520 - 519) % 520 = 0 + 0 + q.val + 1
    omega

/-- middle -/
abbrev middle (x : FVec Ideal S1x528x256 .f32) (a b c s : FVec Ideal S1x256 .f32) : FVec Ideal S512x256 .f32 :=
  taps528_8 (dynamicRotate 0 1#32 none (rows528 x) rotates_S528x256_d0) (rows528 x) (dynamicRotate 0 527#32 none (rows528 x) rotates_S528x256_d0) a b c s

theorem middle_apply (Z : S3x2048x256.Idx → EReal) (n : Fin 3) (w : Vec Ideal S3x256 .f32) (bb : Vec Ideal S1x256 .f32) (lo : ℕ) (hlo : lo + 528 ≤ 2048)
    (x : FVec Ideal S1x528x256 .f32) (hx : ∀ (j : Fin 528) (d : Fin 256), x (ix3 0 j d) = Z (ix3 n ⟨lo + j.val, by omega⟩ d))
    (a b c s : FVec Ideal S1x256 .f32) (ha : ∀ d, a (ix2 0 d) = w (ix2 0 d)) (hb : ∀ d, b (ix2 0 d) = w (ix2 1 d))
    (hc : ∀ d, c (ix2 0 d) = w (ix2 2 d)) (hs : ∀ d, s (ix2 0 d) = bb (ix2 0 d)) (q : Fin 512) (d : Fin 256) :
    middle x a b c s (ix2 q d) = sc Z n w bb ⟨lo + 8 + q.val, by omega⟩ d := by
  refine (taps528_8_apply _ _ _ _ _ _ _ q d).trans ?_
  rw [ha, hb, hc, hs, sc, rows528_apply, hx]
  refine sum_congr ?_ ?_ ?_
  · rw [down528, rows528_apply, hx, zprev, if_neg (by show ¬ (lo + 8 + q.val = 0); omega)]
    refine congrArg Z (congrArg (fun r => ix3 n r d) (Fin.ext ?_))
    show lo + (8 + q.val + 528 - 1) % 528 = lo + 8 + q.val - 1
    omega
  · refine congrArg Z (congrArg (fun r => ix3 n r d) (Fin.ext ?_))
    show lo + (8 + q.val) = lo + 8 + q.val
    omega
  · rw [up528, rows528_apply, hx, znext, dif_pos (by show lo + 8 + q.val + 1 < 2048; omega)]
    refine congrArg Z (congrArg (fun r => ix3 n r d) (Fin.ext ?_))
    show lo + (8 + q.val + 528 - 527) % 528 = lo + 8 + q.val + 1
    omega

/-- last -/
abbrev last (x : FVec Ideal S1x520x256 .f32) (a b c s : FVec Ideal S1x256 .f32) : FVec Ideal S512x256 .f32 :=
  taps520_8 (dynamicRotate 0 1#32 none (rows520 x) rotates_S520x256_d0) (rows520 x) (mask 519#32 (dynamicRotate 0 519#32 none (rows520 x) rotates_S520x256_d0)) a b c s

theorem last_apply (Z : S3x2048x256.Idx → EReal) (n : Fin 3) (w : Vec Ideal S3x256 .f32) (bb : Vec Ideal S1x256 .f32)
    (x : FVec Ideal S1x520x256 .f32) (hx : ∀ (j : Fin 520) (d : Fin 256), x (ix3 0 j d) = Z (ix3 n ⟨1528 + j.val, by omega⟩ d))
    (a b c s : FVec Ideal S1x256 .f32) (ha : ∀ d, a (ix2 0 d) = w (ix2 0 d)) (hb : ∀ d, b (ix2 0 d) = w (ix2 1 d))
    (hc : ∀ d, c (ix2 0 d) = w (ix2 2 d)) (hs : ∀ d, s (ix2 0 d) = bb (ix2 0 d)) (q : Fin 512) (d : Fin 256) :
    last x a b c s (ix2 q d) = sc Z n w bb ⟨1528 + 8 + q.val, by omega⟩ d := by
  refine (taps520_8_apply _ _ _ _ _ _ _ q d).trans ?_
  rw [ha, hb, hc, hs, sc, rows520_apply, hx]
  refine sum_congr ?_ ?_ ?_
  · rw [down520, rows520_apply, hx, zprev, if_neg (by show ¬ (1528 + 8 + q.val = 0); omega)]
    refine congrArg Z (congrArg (fun r => ix3 n r d) (Fin.ext ?_))
    show 1528 + (8 + q.val + 520 - 1) % 520 = 1528 + 8 + q.val - 1
    omega
  · refine congrArg Z (congrArg (fun r => ix3 n r d) (Fin.ext ?_))
    show 1528 + (8 + q.val) = 1528 + 8 + q.val
    omega
  · refine (mask_apply 519 (by omega) _ _ _).trans ?_
    rw [znext]
    have hq := q.isLt
    split_ifs with h h' h'
    · have h : 8 + q.val = 519 := h
      have h' : 1528 + 8 + q.val + 1 < 2048 := h'
      omega
    · rfl
    · rw [up520, rows520_apply, hx]
      refine congrArg Z (congrArg (fun r => ix3 n r d) (Fin.ext ?_))
      have h : ¬ 8 + q.val = 519 := h
      show 1528 + (8 + q.val + 520 - 519) % 520 = 1528 + 8 + q.val + 1
      omega
    · have h : ¬ 8 + q.val = 519 := h
      have h' : ¬ 1528 + 8 + q.val + 1 < 2048 := h'
      omega

end Cert.Proof.Body

end

end
-- ==== Proof.BodyP.lean ====
module

public import proofs.«01_k».proof.Proof.BodySC

@[expose] public section

set_option maxRecDepth 16384

noncomputable section

/-! The stores of the gated input and of the gate: every row is the short convolution of the projections, or the product of two of them. -/

namespace Cert.Proof.Body

open Cert.KernelIdeal Cert.KernelIdeal.Gen Idealize.ShloMosaic Idealize.ShloMosaic.TcCoe

section
variable {sig : RefSig} {κ : Kind} {sp : Space}

/-- One row of a table of taps. -/
theorem readRow {A : ℕ} (m : Memref sig κ sp ⟨2, ![A, 256]⟩ .f32) (hm : m.IsWhole) (x : Vec Ideal ⟨2, ![A, 256]⟩ .f32) (k : ℕ) (hk : k < A)
    (h : ∀ i : Fin 2, (![k, 0] : Fin 2 → ℕ) i + (![1, 256] : Fin 2 → ℕ) i ≤ (![A, 256] : Fin 2 → ℕ) i) (d : Fin 256) :
    View.readAt (Elt Ideal) m.view (Rect.unit (s := ⟨2, ![A, 256]⟩) ![k, 0] ![1, 256] h).toLoadRect (hm.unread x) (ix2 0 d) = x (ix2 ⟨k, hk⟩ d) := by
  rw [readAt_whole]
  refine congrArg x ((idx2 (A := A) (B := 256) (a := 1) (b := 256) k 0 h (ix2 0 d) (by show k + 0 < A; omega) (by show 0 + d.val < 256; omega)).trans ?_)
  show ix2 _ _ = ix2 _ _
  congr 1
  exact Fin.ext (Nat.zero_add _)

variable (Z : S3x2048x256.Idx → EReal) (vz : View sig κ sp S3x2048x256 .f32) (L l) (hL : Stores (e := .f32) Z L l)
  (mw : Memref sig κ sp S3x256 .f32) (hw : mw.IsWhole) (w : Vec Ideal S3x256 .f32)
  (mb : Memref sig κ sp S1x256 .f32) (hb : mb.IsWhole) (b : Vec Ideal S1x256 .f32) (n : ℕ) (n' : Fin 3) (hn : n = n'.val)

include hL hn in
theorem read_rows (lo m : ℕ) (hm : lo + m ≤ 2048)
    (inb : ∀ i : Fin 3, (![n, lo, 0] : Fin 3 → ℕ) i + (![1, m, 256] : Fin 3 → ℕ) i ≤ (![3, 2048, 256] : Fin 3 → ℕ) i)
    (hc : ∀ r d : ℕ, lo ≤ r → r < lo + m → d < 256 → ∃ p ∈ l, ∀ k : Fin 3, p.1 k ≤ (![n, r, d] : Fin 3 → ℕ) k ∧ (![n, r, d] : Fin 3 → ℕ) k < p.1 k + p.2 k)
    (j : Fin m) (d : Fin 256) :
    vz.readCov L (Rect.unit (s := ⟨3, ![3, 2048, 256]⟩) ![n, lo, 0] ![1, m, 256] inb).toLoadRect (ix3 0 j d) = Z (ix3 n' ⟨lo + j.val, by omega⟩ d) := by
  rw [hL.read vz _ ?_]
  · refine congrArg Z ((idx3 (A := 3) (B := 2048) (C := 256) (a := 1) (b := m) (c := 256) n lo 0 inb (ix3 0 j d)
      (by have := n'.isLt; show n + 0 < 3; omega) (by show lo + j.val < 2048; omega) (by show 0 + d.val < 256; omega)).trans ?_)
    show ix3 _ _ _ = ix3 _ _ _
    congr 1 <;> refine Fin.ext ?_
    · show n + 0 = n'.val; omega
    · exact Nat.zero_add _
  · intro i
    have i0 : (i 0).val < 1 := (i 0).isLt
    have i1 : (i 1).val < m := (i 1).isLt
    have i2 : (i 2).val < 256 := (i 2).isLt
    obtain ⟨p, hp, hk⟩ := hc (lo + (i 1).val) (i 2).val (by omega) (by omega) i2
    refine ⟨p, hp, fun k => ?_⟩
    have e := idx3 (A := 3) (B := 2048) (C := 256) (a := 1) (b := m) (c := 256) n lo 0 inb i
      (by have := n'.isLt; omega) (by omega) (by omega)
    have e' : ((Rect.unit (s := ⟨3, ![3, 2048, 256]⟩) ![n, lo, 0] ![1, m, 256] inb).toLoadRect.idx i k).val = (![n, lo + (i 1).val, (i 2).val] : Fin 3 → ℕ) k := by
      refine (congrArg Fin.val (congrFun e k)).trans ?_
      fin_cases k
      · show n + (i 0).val = n; omega
      · rfl
      · exact Nat.zero_add _
    rw [e']
    exact hk k

include hL hn in
/-- A chunk of the short convolution, from the stored projections. -/
theorem first_read
    (hc : ∀ r d : ℕ, 0 ≤ r → r < 0 + 520 → d < 256 → ∃ p ∈ l, ∀ k : Fin 3, p.1 k ≤ (![n, r, d] : Fin 3 → ℕ) k ∧ (![n, r, d] : Fin 3 → ℕ) k < p.1 k + p.2 k)
    (inb i0 i1 i2 i3) (q : Fin 512) (d : Fin 256) :
    first (vz.readCov L (Rect.unit (s := S3x2048x256) ![n, 0, 0] S1x520x256.size inb).toLoadRect)
      (View.readAt (Elt Ideal) mw.view (Rect.unit (s := S3x256) ![0, 0] S1x256.size i0).toLoadRect (hw.unread w))
      (View.readAt (Elt Ideal) mw.view (Rect.unit (s := S3x256) ![1, 0] S1x256.size i1).toLoadRect (hw.unread w))
      (View.readAt (Elt Ideal) mw.view (Rect.unit (s := S3x256) ![2, 0] S1x256.size i2).toLoadRect (hw.unread w))
      (View.readAt (Elt Ideal) mb.view (Rect.unit (s := S1x256) ![0, 0] S1x256.size i3).toLoadRect (hb.unread b)) (ix2 q d)
      = sc Z n' w b ⟨0 + 0 + q.val, by omega⟩ d :=
  first_apply Z n' w b  _ (read_rows Z vz L l hL n n' hn 0 520 (by omega) inb hc) _ _ _ _
    (readRow mw hw w 0 (by omega) i0) (readRow mw hw w 1 (by omega) i1) (readRow mw hw w 2 (by omega) i2) (readRow mb hb b 0 (by omega) i3) q d

include hL hn in
/-- A chunk of the short convolution, from the stored projections. -/
theorem middle_read (lo : ℕ) (hlo : lo + 528 ≤ 2048)
    (hc : ∀ r d : ℕ, lo ≤ r → r < lo + 528 → d < 256 → ∃ p ∈ l, ∀ k : Fin 3, p.1 k ≤ (![n, r, d] : Fin 3 → ℕ) k ∧ (![n, r, d] : Fin 3 → ℕ) k < p.1 k + p.2 k)
    (inb i0 i1 i2 i3) (q : Fin 512) (d : Fin 256) :
    middle (vz.readCov L (Rect.unit (s := S3x2048x256) ![n, lo, 0] S1x528x256.size inb).toLoadRect)
      (View.readAt (Elt Ideal) mw.view (Rect.unit (s := S3x256) ![0, 0] S1x256.size i0).toLoadRect (hw.unread w))
      (View.readAt (Elt Ideal) mw.view (Rect.unit (s := S3x256) ![1, 0] S1x256.size i1).toLoadRect (hw.unread w))
      (View.readAt (Elt Ideal) mw.view (Rect.unit (s := S3x256) ![2, 0] S1x256.size i2).toLoadRect (hw.unread w))
      (View.readAt (Elt Ideal) mb.view (Rect.unit (s := S1x256) ![0, 0] S1x256.size i3).toLoadRect (hb.unread b)) (ix2 q d)
      = sc Z n' w b ⟨lo + 8 + q.val, by omega⟩ d :=
  middle_apply Z n' w b lo hlo _ (read_rows Z vz L l hL n n' hn lo 528 (by omega) inb hc) _ _ _ _
    (readRow mw hw w 0 (by omega) i0) (readRow mw hw w 1 (by omega) i1) (readRow mw hw w 2 (by omega) i2) (readRow mb hb b 0 (by omega) i3) q d

include hL hn in
/-- A chunk of the short convolution, from the stored projections. -/
theorem last_read
    (hc : ∀ r d : ℕ, 1528 ≤ r → r < 1528 + 520 → d < 256 → ∃ p ∈ l, ∀ k : Fin 3, p.1 k ≤ (![n, r, d] : Fin 3 → ℕ) k ∧ (![n, r, d] : Fin 3 → ℕ) k < p.1 k + p.2 k)
    (inb i0 i1 i2 i3) (q : Fin 512) (d : Fin 256) :
    last (vz.readCov L (Rect.unit (s := S3x2048x256) ![n, 1528, 0] S1x520x256.size inb).toLoadRect)
      (View.readAt (Elt Ideal) mw.view (Rect.unit (s := S3x256) ![0, 0] S1x256.size i0).toLoadRect (hw.unread w))
      (View.readAt (Elt Ideal) mw.view (Rect.unit (s := S3x256) ![1, 0] S1x256.size i1).toLoadRect (hw.unread w))
      (View.readAt (Elt Ideal) mw.view (Rect.unit (s := S3x256) ![2, 0] S1x256.size i2).toLoadRect (hw.unread w))
      (View.readAt (Elt Ideal) mb.view (Rect.unit (s := S1x256) ![0, 0] S1x256.size i3).toLoadRect (hb.unread b)) (ix2 q d)
      = sc Z n' w b ⟨1528 + 8 + q.val, by omega⟩ d :=
  last_apply Z n' w b  _ (read_rows Z vz L l hL n n' hn 1528 520 (by omega) inb hc) _ _ _ _
    (readRow mw hw w 0 (by omega) i0) (readRow mw hw w 1 (by omega) i1) (readRow mw hw w 2 (by omega) i2) (readRow mb hb b 0 (by omega) i3) q d

end

theorem castSelf (x : FVec Ideal S512x256 .f32) (y : S512x256.Idx) : shapeCast S512x256 x shapeCasts_S512x256_S512x256 y = x (ix2 (y 0) (y 1)) := by
  pointwise

theorem mulSelf (A B : FVec Ideal S512x256 .f32) (y : S512x256.Idx) :
    shapeCast S512x256 (mulf A B) shapeCasts_S512x256_S512x256 y = A (ix2 (y 0) (y 1)) * B (ix2 (y 0) (y 1)) := by
  pointwise

theorem emb2 (r : ℕ) (hr : r + 512 ≤ 2048) (inb) (y : (Rect.unit (s := S2048x256) ![r, 0] S512x256.size inb).shape.Idx) :
    (Rect.unit (s := S2048x256) ![r, 0] S512x256.size inb).emb y
      = ix2 ⟨r + (y 0).val, by have : (y 0).val < 512 := (y 0).isLt; omega⟩ (y 1) := by
  have y0 : (y 0).val < 512 := (y 0).isLt
  have y1 : (y 1).val < 256 := (y 1).isLt
  refine (idx2 (A := 2048) (B := 256) (a := 512) (b := 256) r 0 inb y (by omega) (by omega)).trans ?_
  show ix2 _ _ = ix2 _ _
  congr 1
  exact Fin.ext (Nat.zero_add _)

/-- A stored chunk of the gate. -/
theorem x_piece (G : S2048x256.Idx → EReal) (A : FVec Ideal S512x256 .f32) (f : Fin 2048 → Fin 256 → EReal) (hG : ∀ r d, G (ix2 r d) = f r d)
    (r r' : ℕ) (hr : r + 512 ≤ 2048) (hr' : r = r') (inb) (hA : ∀ (q : Fin 512) d, A (ix2 q d) = f ⟨r' + q.val, by omega⟩ d)
    (y : (Rect.unit (s := S2048x256) ![r, 0] S512x256.size inb).shape.Idx) :
    shapeCast S512x256 A shapeCasts_S512x256_S512x256 y = G ((Rect.unit (s := S2048x256) ![r, 0] S512x256.size inb).emb y) := by
  subst hr'
  rw [emb2 r hr inb y]
  exact (castSelf A y).trans ((hA _ _).trans (hG _ _).symm)

/-- A stored chunk of the gated input. -/
theorem p_piece (G : S2048x256.Idx → EReal) (A B : FVec Ideal S512x256 .f32) (f g : Fin 2048 → Fin 256 → EReal) (hG : ∀ r d, G (ix2 r d) = f r d * g r d)
    (r r' : ℕ) (hr : r + 512 ≤ 2048) (hr' : r = r') (inb) (hA : ∀ (q : Fin 512) d, A (ix2 q d) = f ⟨r' + q.val, by omega⟩ d)
    (hB : ∀ (q : Fin 512) d, B (ix2 q d) = g ⟨r' + q.val, by omega⟩ d)
    (y : (Rect.unit (s := S2048x256) ![r, 0] S512x256.size inb).shape.Idx) :
    shapeCast S512x256 (mulf A B) shapeCasts_S512x256_S512x256 y = G ((Rect.unit (s := S2048x256) ![r, 0] S512x256.size inb).emb y) := by
  subst hr'
  rw [emb2 r hr inb y]
  refine (mulSelf A B y).trans (Eq.trans ?_ (hG _ _).symm)
  exact congrArg₂ (· * ·) (hA _ _) (hB _ _)

variable (c : Dev nD) (i : grid0.Coords) (arg2 : Memref sig .tc .vmem S1x2048x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S3x256 .f32) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S7x1024x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S512x1024 .bf16) (harg18 : arg18.IsWhole) (arg19 : Memref sig .tc .vmem S1x2048x256 .bf16) (harg19 : arg19.IsWhole) (arg20 : Memref sig .tc .vmem S3x2048x256 .f32) (harg20 : arg20.IsWhole) (arg21 : Memref sig .tc .vmem S2048x256 .f32) (harg21 : arg21.IsWhole) (arg22 : Memref sig .tc .vmem S2048x256 .f32) (harg22 : arg22.IsWhole) (arg23 : Memref sig .tc .vmem S4x1024x256 .f32) (harg23 : arg23.IsWhole) (arg24 : Memref sig .tc .vmem S4x1024x256 .bf16) (harg24 : arg24.IsWhole)
    (x0 : Vec Ideal S1x2048x2048 .bf16) (x1 : Vec Ideal S2048x256 .bf16) (x2 : Vec Ideal S2048x256 .bf16) (x3 : Vec Ideal S2048x256 .bf16) (x4 : Vec Ideal S1x256 .f32) (x5 : Vec Ideal S1x256 .f32) (x6 : Vec Ideal S1x256 .f32) (x7 : Vec Ideal S3x256 .f32) (x8 : Vec Ideal S3x256 .f32) (x9 : Vec Ideal S3x256 .f32) (x10 : Vec Ideal S1x256 .f32) (x11 : Vec Ideal S1x256 .f32) (x12 : Vec Ideal S1x256 .f32) (x13 : Vec Ideal S7x1024x256 .f32) (x14 : Vec Ideal S1x256 .f32) (x15 : Vec Ideal S1024x512 .bf16) (x16 : Vec Ideal S512x1024 .bf16)

/-- The gated input and the gate, as functions of the block's projections. -/
def Pg (Z : S3x2048x256.Idx → EReal) (x8 x9 : Vec Ideal S3x256 .f32) (x11 x12 : Vec Ideal S1x256 .f32) (i : S2048x256.Idx) : EReal :=
  sc Z 2 x9 x12 (i 0) (i 1) * sc Z 1 x8 x11 (i 0) (i 1)

@[inherit_doc Pg]
def Xg (Z : S3x2048x256.Idx → EReal) (x7 : Vec Ideal S3x256 .f32) (x10 : Vec Ideal S1x256 .f32) (i : S2048x256.Idx) : EReal :=
  sc Z 0 x7 x10 (i 0) (i 1)

set_option maxHeartbeats 4000000 in
attribute [local irreducible] shapeCast View.readAt View.readCov mulf addf subf truncf select cmpi dynamicRotate extractStridedSlice in
theorem x_stores : Stores (Xg (Z x0 x1 x2 x3 x4 x5 x6) x7 x10) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1 [(![1536, 0], ![512, 256]), (![1024, 0], ![512, 256]), (![512, 0], ![512, 256]), (![0, 0], ![512, 256])] := by
  obtain ⟨l, hz, rfl⟩ := z_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
  refine Stores.cons _ _ _ _ _ _ ?_ ?_
  · exact x_piece _ _ (sc _ 0 x7 x10) (fun _ _ => rfl) 1536 _ (by decide) rfl _ (by exact last_read _ _ _ _ (hz.drop 0) arg9 harg9 x7 arg12 harg12 x10 0 0 rfl (by intro r d h1 h2 h3; simp [Fin.forall_fin_succ]; omega) _ _ _ _ _)
  refine Stores.cons _ _ _ _ _ _ ?_ ?_
  · exact x_piece _ _ (sc _ 0 x7 x10) (fun _ _ => rfl) 1024 _ (by decide) rfl _ (by exact middle_read _ _ _ _ (hz.drop 0) arg9 harg9 x7 arg12 harg12 x10 0 0 rfl 1016 (by decide) (by intro r d h1 h2 h3; simp [Fin.forall_fin_succ]; omega) _ _ _ _ _)
  refine Stores.cons _ _ _ _ _ _ ?_ ?_
  · exact x_piece _ _ (sc _ 0 x7 x10) (fun _ _ => rfl) 512 _ (by decide) rfl _ (by exact middle_read _ _ _ _ (hz.drop 3) arg9 harg9 x7 arg12 harg12 x10 0 0 rfl 504 (by decide) (by intro r d h1 h2 h3; simp [Fin.forall_fin_succ]; omega) _ _ _ _ _)
  refine Stores.cons _ _ _ _ _ _ ?_ ?_
  · exact x_piece _ _ (sc _ 0 x7 x10) (fun _ _ => rfl) 0 _ (by decide) rfl _ (by exact first_read _ _ _ _ (hz.drop 6) arg9 harg9 x7 arg12 harg12 x10 0 0 rfl (by intro r d h1 h2 h3; simp [Fin.forall_fin_succ]; omega) _ _ _ _ _)
  exact Stores.nil

set_option maxHeartbeats 4000000 in
attribute [local irreducible] shapeCast View.readAt View.readCov mulf addf subf truncf select cmpi dynamicRotate extractStridedSlice in
theorem p_stores : Stores (Pg (Z x0 x1 x2 x3 x4 x5 x6) x8 x9 x11 x12) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1 [(![1536, 0], ![512, 256]), (![1024, 0], ![512, 256]), (![512, 0], ![512, 256]), (![0, 0], ![512, 256])] := by
  obtain ⟨l, hz, rfl⟩ := z_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
  refine Stores.cons _ _ _ _ _ _ ?_ ?_
  · exact p_piece _ _ _ (sc _ 2 x9 x12) (sc _ 1 x8 x11) (fun _ _ => rfl) 1536 _ (by decide) rfl _ (by exact last_read _ _ _ _ (hz.drop 0) arg11 harg11 x9 arg14 harg14 x12 2 2 rfl (by intro r d h1 h2 h3; simp [Fin.forall_fin_succ]; omega) _ _ _ _ _) (by exact last_read _ _ _ _ (hz.drop 0) arg10 harg10 x8 arg13 harg13 x11 1 1 rfl (by intro r d h1 h2 h3; simp [Fin.forall_fin_succ]; omega) _ _ _ _ _)
  refine Stores.cons _ _ _ _ _ _ ?_ ?_
  · exact p_piece _ _ _ (sc _ 2 x9 x12) (sc _ 1 x8 x11) (fun _ _ => rfl) 1024 _ (by decide) rfl _ (by exact middle_read _ _ _ _ (hz.drop 0) arg11 harg11 x9 arg14 harg14 x12 2 2 rfl 1016 (by decide) (by intro r d h1 h2 h3; simp [Fin.forall_fin_succ]; omega) _ _ _ _ _) (by exact middle_read _ _ _ _ (hz.drop 0) arg10 harg10 x8 arg13 harg13 x11 1 1 rfl 1016 (by decide) (by intro r d h1 h2 h3; simp [Fin.forall_fin_succ]; omega) _ _ _ _ _)
  refine Stores.cons _ _ _ _ _ _ ?_ ?_
  · exact p_piece _ _ _ (sc _ 2 x9 x12) (sc _ 1 x8 x11) (fun _ _ => rfl) 512 _ (by decide) rfl _ (by exact middle_read _ _ _ _ (hz.drop 3) arg11 harg11 x9 arg14 harg14 x12 2 2 rfl 504 (by decide) (by intro r d h1 h2 h3; simp [Fin.forall_fin_succ]; omega) _ _ _ _ _) (by exact middle_read _ _ _ _ (hz.drop 3) arg10 harg10 x8 arg13 harg13 x11 1 1 rfl 504 (by decide) (by intro r d h1 h2 h3; simp [Fin.forall_fin_succ]; omega) _ _ _ _ _)
  refine Stores.cons _ _ _ _ _ _ ?_ ?_
  · exact p_piece _ _ _ (sc _ 2 x9 x12) (sc _ 1 x8 x11) (fun _ _ => rfl) 0 _ (by decide) rfl _ (by exact first_read _ _ _ _ (hz.drop 6) arg11 harg11 x9 arg14 harg14 x12 2 2 rfl (by intro r d h1 h2 h3; simp [Fin.forall_fin_succ]; omega) _ _ _ _ _) (by exact first_read _ _ _ _ (hz.drop 6) arg10 harg10 x8 arg13 harg13 x11 1 1 rfl (by intro r d h1 h2 h3; simp [Fin.forall_fin_succ]; omega) _ _ _ _ _)
  exact Stores.nil

end Cert.Proof.Body

end

end
-- ==== Proof.BodyPh.lean ====
module

public import proofs.«01_k».proof.Proof.BodyP

@[expose] public section

set_option maxRecDepth 16384

noncomputable section

/-! The stores of the spectra: each block's product of the forward table with its rows of the gated input. -/

namespace Cert.Proof.Body

open Cert.KernelIdeal Cert.KernelIdeal.Gen Idealize.ShloMosaic Idealize.ShloMosaic.TcCoe

/-- The spectra of the gated input's blocks. -/
def PH (F : Vec Ideal S1024x512 .bf16) (P : S2048x256.Idx → EReal) (i : S4x1024x256.Idx) : EReal :=
  ∑ s : Fin 512, F (ix2 (i 1) s) * P (ix2 ⟨512 * (i 0).val + s.val, by have : (i 0).val < 4 := (i 0).isLt; omega⟩ (i 2))

theorem castPh (F : FVec Ideal S1024x512 .bf16) (p : FVec Ideal S512x256 .f32) (y : S1x1024x256.Idx) :
    shapeCast S1x1024x256 (matmul dot_S1024x512_S512x256_S1024x256_1_0_0_1_n_n none (shapeCast S1024x512 F shapeCasts_S1024x512_S1024x512 : FVec Ideal S1024x512 .bf16)
      (truncf .bf16 p bitsLt_bf16_f32) (constant S1024x256 .f32 0x00000000#32) : FVec Ideal S1024x256 .f32) shapeCasts_S1024x256_S1x1024x256 y
      = ∑ s : Fin 512, F (ix2 (y 1) s) * p (ix2 s (y 2)) := by
  pointwise

section
variable {sig : RefSig} {κ : Kind} {sp : Space} (P : S2048x256.Idx → EReal) (vp : View sig κ sp S2048x256 .f32) (L l) (hL : Stores (e := .f32) P L l)

include hL in
/-- A block of rows read from the stores. -/
theorem read_block (r : ℕ) (hr : r + 512 ≤ 2048)
    (hc : ∀ a d : ℕ, r ≤ a → a < r + 512 → d < 256 → ∃ p ∈ l, ∀ k : Fin 2, p.1 k ≤ (![a, d] : Fin 2 → ℕ) k ∧ (![a, d] : Fin 2 → ℕ) k < p.1 k + p.2 k)
    (inb) (q : Fin 512) (d : Fin 256) :
    vp.readCov L (Rect.unit (s := S2048x256) ![r, 0] S512x256.size inb).toLoadRect (ix2 q d) = P (ix2 ⟨r + q.val, by omega⟩ d) := by
  rw [hL.read vp _ ?_]
  · exact congrArg P (emb2 r hr inb (ix2 q d))
  · intro i
    have i0 : (i 0).val < 512 := (i 0).isLt
    have i1 : (i 1).val < 256 := (i 1).isLt
    obtain ⟨p, hp, hk⟩ := hc (r + (i 0).val) (i 1).val (by omega) (by omega) i1
    refine ⟨p, hp, fun k => ?_⟩
    have e' : ((Rect.unit (s := S2048x256) ![r, 0] S512x256.size inb).toLoadRect.idx i k).val = (![r + (i 0).val, (i 1).val] : Fin 2 → ℕ) k := by
      refine (congrArg Fin.val (congrFun (emb2 r hr inb i) k)).trans ?_
      fin_cases k <;> rfl
    rw [e']
    exact hk k

include hL in
theorem ph_piece (mF : Memref sig κ sp S1024x512 .bf16) (hF : mF.IsWhole) (F : Vec Ideal S1024x512 .bf16) (b r : ℕ) (hb : b < 4) (hr : r = 512 * b)
    (hc : ∀ a d : ℕ, r ≤ a → a < r + 512 → d < 256 → ∃ p ∈ l, ∀ k : Fin 2, p.1 k ≤ (![a, d] : Fin 2 → ℕ) k ∧ (![a, d] : Fin 2 → ℕ) k < p.1 k + p.2 k)
    (inb i0 i1) (y : (Rect.unit (s := S4x1024x256) ![b, 0, 0] S1x1024x256.size inb).shape.Idx) :
    shapeCast S1x1024x256 (matmul dot_S1024x512_S512x256_S1024x256_1_0_0_1_n_n none
      (shapeCast S1024x512 (View.readAt (Elt Ideal) mF.view (Rect.unit (s := S1024x512) ![0, 0] S1024x512.size i0).toLoadRect (hF.unread F)) shapeCasts_S1024x512_S1024x512 : FVec Ideal S1024x512 .bf16)
      (truncf .bf16 (vp.readCov L (Rect.unit (s := S2048x256) ![r, 0] S512x256.size i1).toLoadRect : FVec Ideal S512x256 .f32) bitsLt_bf16_f32) (constant S1024x256 .f32 0x00000000#32) : FVec Ideal S1024x256 .f32) shapeCasts_S1024x256_S1x1024x256 y
      = PH F P ((Rect.unit (s := S4x1024x256) ![b, 0, 0] S1x1024x256.size inb).emb y) := by
  subst hr
  have y0 : (y 0).val < 1 := (y 0).isLt
  have y1 : (y 1).val < 1024 := (y 1).isLt
  have y2 : (y 2).val < 256 := (y 2).isLt
  have e : (Rect.unit (s := S4x1024x256) ![b, 0, 0] S1x1024x256.size inb).emb y = ix3 ⟨b, hb⟩ (y 1) (y 2) := by
    refine (idx3 (A := 4) (B := 1024) (C := 256) b 0 0 inb y (by omega) (by omega) (by omega)).trans ?_
    show ix3 _ _ _ = ix3 _ _ _
    congr 1 <;> refine Fin.ext ?_
    · show b + (y 0).val = b; omega
    · exact Nat.zero_add _
    · exact Nat.zero_add _
  rw [e]
  refine (castPh _ _ y).trans (Finset.sum_congr rfl fun s _ => congrArg₂ (· * ·) (congrFun (readAt2_zero mF hF F i0) _) ?_)
  exact read_block P vp L l hL (512 * b) (by omega) hc i1 s (y 2)

end

variable (c : Dev nD) (i : grid0.Coords) (arg2 : Memref sig .tc .vmem S1x2048x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S3x256 .f32) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S7x1024x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S512x1024 .bf16) (harg18 : arg18.IsWhole) (arg19 : Memref sig .tc .vmem S1x2048x256 .bf16) (harg19 : arg19.IsWhole) (arg20 : Memref sig .tc .vmem S3x2048x256 .f32) (harg20 : arg20.IsWhole) (arg21 : Memref sig .tc .vmem S2048x256 .f32) (harg21 : arg21.IsWhole) (arg22 : Memref sig .tc .vmem S2048x256 .f32) (harg22 : arg22.IsWhole) (arg23 : Memref sig .tc .vmem S4x1024x256 .f32) (harg23 : arg23.IsWhole) (arg24 : Memref sig .tc .vmem S4x1024x256 .bf16) (harg24 : arg24.IsWhole)
    (x0 : Vec Ideal S1x2048x2048 .bf16) (x1 : Vec Ideal S2048x256 .bf16) (x2 : Vec Ideal S2048x256 .bf16) (x3 : Vec Ideal S2048x256 .bf16) (x4 : Vec Ideal S1x256 .f32) (x5 : Vec Ideal S1x256 .f32) (x6 : Vec Ideal S1x256 .f32) (x7 : Vec Ideal S3x256 .f32) (x8 : Vec Ideal S3x256 .f32) (x9 : Vec Ideal S3x256 .f32) (x10 : Vec Ideal S1x256 .f32) (x11 : Vec Ideal S1x256 .f32) (x12 : Vec Ideal S1x256 .f32) (x13 : Vec Ideal S7x1024x256 .f32) (x14 : Vec Ideal S1x256 .f32) (x15 : Vec Ideal S1024x512 .bf16) (x16 : Vec Ideal S512x1024 .bf16)
set_option maxHeartbeats 4000000 in
attribute [local irreducible] shapeCast View.readAt View.readCov mulf addf subf truncf select cmpi dynamicRotate extractStridedSlice in
theorem ph_stores : Stores (PH x15 (Pg (Z x0 x1 x2 x3 x4 x5 x6) x8 x9 x11 x12)) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1 [(![3, 0, 0], ![1, 1024, 256]), (![2, 0, 0], ![1, 1024, 256]), (![1, 0, 0], ![1, 1024, 256]), (![0, 0, 0], ![1, 1024, 256])] := by
  refine Stores.cons _ _ _ _ _ _ ?_ ?_
  · exact ph_piece _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) arg17 harg17 x15 3 1536 (by decide) rfl (by intro a d h1 h2 h3; simp [Fin.forall_fin_succ]; omega) _ _ _
  refine Stores.cons _ _ _ _ _ _ ?_ ?_
  · exact ph_piece _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) arg17 harg17 x15 2 1024 (by decide) rfl (by intro a d h1 h2 h3; simp [Fin.forall_fin_succ]; omega) _ _ _
  refine Stores.cons _ _ _ _ _ _ ?_ ?_
  · exact ph_piece _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) arg17 harg17 x15 1 512 (by decide) rfl (by intro a d h1 h2 h3; simp [Fin.forall_fin_succ]; omega) _ _ _
  refine Stores.cons _ _ _ _ _ _ ?_ ?_
  · exact ph_piece _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) arg17 harg17 x15 0 0 (by decide) rfl (by intro a d h1 h2 h3; simp [Fin.forall_fin_succ]; omega) _ _ _
  exact Stores.nil

/-- Every load of the spectra reads them. -/
theorem ph_read (B) : arg23.view.readCov (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1 B = fun j => PH x15 (Pg (Z x0 x1 x2 x3 x4 x5 x6) x8 x9 x11 x12) (B.idx j) := by
  refine (ph_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).read _ B fun j => ?_
  generalize B.idx j = i
  have i0 : (i 0).val < 4 := (i 0).isLt
  have i1 : (i 1).val < 1024 := (i 1).isLt
  have i2 : (i 2).val < 256 := (i 2).isLt
  simp [Fin.forall_fin_succ]
  omega

end Cert.Proof.Body

end

end
-- ==== Proof.BodyOut.lean ====
module

public import proofs.«01_k».proof.Proof.BodyYh
public import proofs.«01_k».proof.Proof.BodyPh

@[expose] public section

set_option maxRecDepth 16384

noncomputable section

/-! One step's block of the result: each 512 rows are the inverse table's product with the combined spectra, plus the skip term, times the gate. -/

namespace Cert.Proof.Body

open Cert.KernelIdeal Cert.KernelIdeal.Gen Idealize.ShloMosaic Idealize.ShloMosaic.TcCoe

/-- The block of the result at one row. -/
def outv (V : Vec Ideal S512x1024 .bf16) (Yv : S4x1024x256.Idx → EReal) (P X : S2048x256.Idx → EReal) (k : Vec Ideal S1x256 .f32)
    (a : Fin 4) (q : Fin 512) (d : Fin 256) : EReal :=
  ((∑ f : Fin 1024, V (ix2 q f) * Yv (ix3 a f d)) + P (ix2 ⟨512 * a.val + q.val, by omega⟩ d) * k (ix2 0 d)) * X (ix2 ⟨512 * a.val + q.val, by omega⟩ d)

/-- The block of the result. -/
def Out (V : Vec Ideal S512x1024 .bf16) (Yv : S4x1024x256.Idx → EReal) (P X : S2048x256.Idx → EReal) (k : Vec Ideal S1x256 .f32) (i : S1x2048x256.Idx) : EReal :=
  outv V Yv P X k ⟨(i 1).val / 512, by have : (i 1).val < 2048 := (i 1).isLt; omega⟩ ⟨(i 1).val % 512, by omega⟩ (i 2)

theorem castOut (V : FVec Ideal S512x1024 .bf16) (Yv : FVec Ideal S1x1024x256 .bf16) (p x : FVec Ideal S512x256 .f32) (k : FVec Ideal S1x256 .f32) (y : S1x512x256.Idx) :
    shapeCast S1x512x256 (truncf .bf16 (mulf (addf (matmul dot_S512x1024_S1024x256_S512x256_1_0_0_1_n_n none (shapeCast S512x1024 V shapeCasts_S512x1024_S512x1024 : FVec Ideal S512x1024 .bf16)
      (shapeCast S1024x256 Yv shapeCasts_S1x1024x256_S1024x256 : FVec Ideal S1024x256 .bf16) (constant S512x256 .f32 0x00000000#32))
      (mulf p (broadcastTo S512x256 (shapeCast S1x256 k shapeCasts_S1x256_S1x256 : FVec Ideal S1x256 .f32) broadcasts_S1x256_S512x256))) x : FVec Ideal S512x256 .f32) bitsLt_bf16_f32 : FVec Ideal S512x256 .bf16)
      shapeCasts_S512x256_S1x512x256 y
      = ((∑ f : Fin 1024, V (ix2 (y 1) f) * Yv (ix3 0 f (y 2))) + p (ix2 (y 1) (y 2)) * k (ix2 0 (y 2))) * x (ix2 (y 1) (y 2)) := by
  pointwise

section
variable {sig : RefSig} {κ : Kind} {sp : Space} (P X : S2048x256.Idx → EReal) (Yv : S4x1024x256.Idx → EReal)
  (vp vx : View sig κ sp S2048x256 .f32) (vy : View sig κ sp S4x1024x256 .bf16) (Lp Lx lp lx) (Ly : List (View.Piece (Elt Ideal) S4x1024x256 .bf16))
  (hp : Stores (e := .f32) P Lp lp) (hx : Stores (e := .f32) X Lx lx) (hy : ∀ B, vy.readCov Ly B = fun j => Yv (B.idx j))
  (mV : Memref sig κ sp S512x1024 .bf16) (hV : mV.IsWhole) (V : Vec Ideal S512x1024 .bf16)
  (mk : Memref sig κ sp S1x256 .f32) (hk : mk.IsWhole) (k : Vec Ideal S1x256 .f32)

include hp hx hy in
theorem out_piece (a : Fin 4) (n r : ℕ) (hn : n = a.val) (hr : r = 512 * a.val)
    (hcp : ∀ t d : ℕ, r ≤ t → t < r + 512 → d < 256 → ∃ p ∈ lp, ∀ k : Fin 2, p.1 k ≤ (![t, d] : Fin 2 → ℕ) k ∧ (![t, d] : Fin 2 → ℕ) k < p.1 k + p.2 k)
    (hcx : ∀ t d : ℕ, r ≤ t → t < r + 512 → d < 256 → ∃ p ∈ lx, ∀ k : Fin 2, p.1 k ≤ (![t, d] : Fin 2 → ℕ) k ∧ (![t, d] : Fin 2 → ℕ) k < p.1 k + p.2 k)
    (inb i0 i1 i2 i3 i4) (y : (Rect.unit (s := S1x2048x256) ![0, r, 0] S1x512x256.size inb).shape.Idx) :
    shapeCast S1x512x256 (truncf .bf16 (mulf (addf (matmul dot_S512x1024_S1024x256_S512x256_1_0_0_1_n_n none
        (shapeCast S512x1024 (View.readAt (Elt Ideal) mV.view (Rect.unit (s := S512x1024) ![0, 0] S512x1024.size i0).toLoadRect (hV.unread V)) shapeCasts_S512x1024_S512x1024 : FVec Ideal S512x1024 .bf16)
        (shapeCast S1024x256 (vy.readCov Ly (Rect.unit (s := S4x1024x256) ![n, 0, 0] S1x1024x256.size i1).toLoadRect) shapeCasts_S1x1024x256_S1024x256 : FVec Ideal S1024x256 .bf16) (constant S512x256 .f32 0x00000000#32))
      (mulf (vp.readCov Lp (Rect.unit (s := S2048x256) ![r, 0] S512x256.size i2).toLoadRect : FVec Ideal S512x256 .f32)
        (broadcastTo S512x256 (shapeCast S1x256 (View.readAt (Elt Ideal) mk.view (Rect.unit (s := S1x256) ![0, 0] S1x256.size i3).toLoadRect (hk.unread k)) shapeCasts_S1x256_S1x256 : FVec Ideal S1x256 .f32) broadcasts_S1x256_S512x256)))
      (vx.readCov Lx (Rect.unit (s := S2048x256) ![r, 0] S512x256.size i4).toLoadRect : FVec Ideal S512x256 .f32) : FVec Ideal S512x256 .f32) bitsLt_bf16_f32 : FVec Ideal S512x256 .bf16)
      shapeCasts_S512x256_S1x512x256 y
      = Out V Yv P X k ((Rect.unit (s := S1x2048x256) ![0, r, 0] S1x512x256.size inb).emb y) := by
  subst hr hn
  have ha := a.isLt
  have y0 : (y 0).val < 1 := (y 0).isLt
  have y1 : (y 1).val < 512 := (y 1).isLt
  have y2 : (y 2).val < 256 := (y 2).isLt
  have e : (Rect.unit (s := S1x2048x256) ![0, 512 * a.val, 0] S1x512x256.size inb).emb y = ix3 0 ⟨512 * a.val + (y 1).val, by omega⟩ (y 2) := by
    refine (idx3 (A := 1) (B := 2048) (C := 256) 0 (512 * a.val) 0 inb y (by omega) (by omega) (by omega)).trans ?_
    show ix3 _ _ _ = ix3 _ _ _
    congr 1 <;> refine Fin.ext ?_
    · show 0 + (y 0).val = 0; omega
    · exact Nat.zero_add _
  have o : Out V Yv P X k (ix3 0 ⟨512 * a.val + (y 1).val, by omega⟩ (y 2)) = outv V Yv P X k a (y 1) (y 2) := by
    unfold Out
    congr 1 <;> refine Fin.ext ?_
    · show (512 * a.val + (y 1).val) / 512 = a.val; omega
    · show (512 * a.val + (y 1).val) % 512 = (y 1).val; omega
  refine Eq.trans ?_ ((congrArg (Out V Yv P X k) e).trans o).symm
  refine (castOut _ _ _ _ _ y).trans ?_
  refine congrArg₂ (· * ·) (congrArg₂ (· + ·) (Finset.sum_congr rfl fun f _ => congrArg₂ (· * ·) (congrFun (readAt2_zero mV hV V i0) _) ?_)
    (congrArg₂ (· * ·) (read_block P vp Lp lp hp _ (by omega) hcp i2 (y 1) (y 2)) (congrFun (readAt2_zero mk hk k i3) _)))
    (read_block X vx Lx lx hx _ (by omega) hcx i4 (y 1) (y 2))
  refine (congrFun (hy _) _).trans (congrArg Yv ?_)
  refine (idx3 (A := 4) (B := 1024) (C := 256) (a := 1) (b := 1024) (c := 256) a.val 0 0 i1 (ix3 0 f (y 2)) (by show a.val + 0 < 4; omega)
    (by show 0 + f.val < 1024; omega) (by show 0 + (y 2).val < 256; omega)).trans ?_
  show ix3 _ _ _ = ix3 _ _ _
  congr 1 <;> refine Fin.ext ?_
  · exact Nat.zero_add _
  · exact Nat.zero_add _

end

variable (c : Dev nD) (i : grid0.Coords) (arg2 : Memref sig .tc .vmem S1x2048x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S2048x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S3x256 .f32) (harg9 : arg9.IsWhole) (arg10 : Memref sig .tc .vmem S3x256 .f32) (harg10 : arg10.IsWhole) (arg11 : Memref sig .tc .vmem S3x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S7x1024x256 .f32) (harg15 : arg15.IsWhole) (arg16 : Memref sig .tc .vmem S1x256 .f32) (harg16 : arg16.IsWhole) (arg17 : Memref sig .tc .vmem S1024x512 .bf16) (harg17 : arg17.IsWhole) (arg18 : Memref sig .tc .vmem S512x1024 .bf16) (harg18 : arg18.IsWhole) (arg19 : Memref sig .tc .vmem S1x2048x256 .bf16) (harg19 : arg19.IsWhole) (arg20 : Memref sig .tc .vmem S3x2048x256 .f32) (harg20 : arg20.IsWhole) (arg21 : Memref sig .tc .vmem S2048x256 .f32) (harg21 : arg21.IsWhole) (arg22 : Memref sig .tc .vmem S2048x256 .f32) (harg22 : arg22.IsWhole) (arg23 : Memref sig .tc .vmem S4x1024x256 .f32) (harg23 : arg23.IsWhole) (arg24 : Memref sig .tc .vmem S4x1024x256 .bf16) (harg24 : arg24.IsWhole)
    (x0 : Vec Ideal S1x2048x2048 .bf16) (x1 : Vec Ideal S2048x256 .bf16) (x2 : Vec Ideal S2048x256 .bf16) (x3 : Vec Ideal S2048x256 .bf16) (x4 : Vec Ideal S1x256 .f32) (x5 : Vec Ideal S1x256 .f32) (x6 : Vec Ideal S1x256 .f32) (x7 : Vec Ideal S3x256 .f32) (x8 : Vec Ideal S3x256 .f32) (x9 : Vec Ideal S3x256 .f32) (x10 : Vec Ideal S1x256 .f32) (x11 : Vec Ideal S1x256 .f32) (x12 : Vec Ideal S1x256 .f32) (x13 : Vec Ideal S7x1024x256 .f32) (x14 : Vec Ideal S1x256 .f32) (x15 : Vec Ideal S1024x512 .bf16) (x16 : Vec Ideal S512x1024 .bf16)
set_option maxHeartbeats 4000000 in
attribute [local irreducible] shapeCast View.readAt View.readCov mulf addf subf truncf select cmpi dynamicRotate extractStridedSlice in
theorem out_stores : Stores (Out x16 (Y (PH x15 (Pg (Z x0 x1 x2 x3 x4 x5 x6) x8 x9 x11 x12)) x13) (Pg (Z x0 x1 x2 x3 x4 x5 x6) x8 x9 x11 x12) (Xg (Z x0 x1 x2 x3 x4 x5 x6) x7 x10) x14) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1 [(![0, 1536, 0], ![1, 512, 256]), (![0, 1024, 0], ![1, 512, 256]), (![0, 512, 0], ![1, 512, 256]), (![0, 0, 0], ![1, 512, 256])] := by
  obtain ⟨l, hs, hl⟩ := yh_slabs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 (PH x15 (Pg (Z x0 x1 x2 x3 x4 x5 x6) x8 x9 x11 x12)) (ph_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)
  refine Stores.cons _ _ _ _ _ _ ?_ ?_
  · exact out_piece _ _ _ _ _ _ _ _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (x_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (fun B => hs.read hl _ B) arg18 harg18 x16 arg16 harg16 x14 3 3 1536 rfl rfl (by intro a d h1 h2 h3; simp [Fin.forall_fin_succ]; omega) (by intro a d h1 h2 h3; simp [Fin.forall_fin_succ]; omega) _ _ _ _ _ _
  refine Stores.cons _ _ _ _ _ _ ?_ ?_
  · exact out_piece _ _ _ _ _ _ _ _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (x_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (fun B => hs.read hl _ B) arg18 harg18 x16 arg16 harg16 x14 2 2 1024 rfl rfl (by intro a d h1 h2 h3; simp [Fin.forall_fin_succ]; omega) (by intro a d h1 h2 h3; simp [Fin.forall_fin_succ]; omega) _ _ _ _ _ _
  refine Stores.cons _ _ _ _ _ _ ?_ ?_
  · exact out_piece _ _ _ _ _ _ _ _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (x_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (fun B => hs.read hl _ B) arg18 harg18 x16 arg16 harg16 x14 1 1 512 rfl rfl (by intro a d h1 h2 h3; simp [Fin.forall_fin_succ]; omega) (by intro a d h1 h2 h3; simp [Fin.forall_fin_succ]; omega) _ _ _ _ _ _
  refine Stores.cons _ _ _ _ _ _ ?_ ?_
  · exact out_piece _ _ _ _ _ _ _ _ _ _ _ (p_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (x_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) (fun B => hs.read hl _ B) arg18 harg18 x16 arg16 harg16 x14 0 0 0 rfl rfl (by intro a d h1 h2 h3; simp [Fin.forall_fin_succ]; omega) (by intro a d h1 h2 h3; simp [Fin.forall_fin_succ]; omega) _ _ _ _ _ _
  exact Stores.nil

/-- The step's block of the result, at an index. -/
theorem out_apply (j : S1x2048x256.Idx) : (out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16) j = (Out x16 (Y (PH x15 (Pg (Z x0 x1 x2 x3 x4 x5 x6) x8 x9 x11 x12)) x13) (Pg (Z x0 x1 x2 x3 x4 x5 x6) x8 x9 x11 x12) (Xg (Z x0 x1 x2 x3 x4 x5 x6) x7 x10) x14) j := by
  unfold out0_A_17
  have hL := out_stores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  refine View.canon_apply_of_pieces _ _ hL.agree j (hL.cover j ?_)
  have j0 : (j 0).val < 1 := (j 0).isLt
  have j1 : (j 1).val < 2048 := (j 1).isLt
  have j2 : (j 2).val < 256 := (j 2).isLt
  simp [Fin.forall_fin_succ]
  omega

end Cert.Proof.Body

end

end
-- ==== Proof.Spec.lean ====
/- The mixing step over the reals: projection, three-tap short convolution, two-sided long convolution by lags, gate.
   Both programs are proved to compute this. -/
module

public import Mathlib.Data.EReal.Operations
public import Mathlib.Algebra.BigOperators.Fin

@[expose] public section

noncomputable section

namespace Cert.Proof.Spec

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The seven argument arrays as real functions of their coordinates (leading axes of extent one left out). -/
structure Args where
  h : Fin 8 → Fin 2048 → Fin 2048 → ℝ
  w : Fin 2048 → Fin 6144 → ℝ
  b : Fin 6144 → ℝ
  ws : Fin 3 → Fin 6144 → ℝ
  bs : Fin 6144 → ℝ
  k : Fin 2048 → Fin 4096 → ℝ
  skip : Fin 2048 → ℝ

variable (A : Args)

/-- The projection of one token to one of the 6144 channels. -/
def z (i : Fin 8) (t : Fin 2048) (c : Fin 6144) : ℝ := ∑ k : Fin 2048, A.h i t k * A.w k c + A.b c

/-- The projection at position `t - 1`, zero before the first token. -/
def zprev (i : Fin 8) (t : Fin 2048) (c : Fin 6144) : ℝ := if h : 1 ≤ t.val then z A i ⟨t.val - 1, by omega⟩ c else 0
/-- The projection at position `t + 1`, zero past the last token. -/
def znext (i : Fin 8) (t : Fin 2048) (c : Fin 6144) : ℝ := if h : t.val + 1 < 2048 then z A i ⟨t.val + 1, h⟩ c else 0

/-- The three-tap short convolution. -/
def sc (i : Fin 8) (t : Fin 2048) (c : Fin 6144) : ℝ :=
  A.ws 0 c * zprev A i t c + A.ws 1 c * z A i t c + A.ws 2 c * znext A i t c + A.bs c

/-- Channel `d` of the gate, of the first factor and of the value. -/
def x0 (i : Fin 8) (t d : Fin 2048) : ℝ := sc A i t ⟨d.val, by omega⟩
def x1 (i : Fin 8) (t d : Fin 2048) : ℝ := sc A i t ⟨2048 + d.val, by omega⟩
def v (i : Fin 8) (t d : Fin 2048) : ℝ := sc A i t ⟨4096 + d.val, by omega⟩
/-- The sequence the long convolution takes. -/
def p (i : Fin 8) (t d : Fin 2048) : ℝ := v A i t d * x1 A i t d

/-- The tap from position `s` to position `t`: the forward filter at lag `t - s`, the backward one at lag `s - t`. -/
def tap (t s d : Fin 2048) : ℝ :=
  if s.val ≤ t.val then A.k ⟨t.val - s.val, by omega⟩ ⟨d.val, by omega⟩
  else A.k ⟨s.val - t.val, by omega⟩ ⟨2048 + d.val, by omega⟩

/-- The gated long convolution. -/
def out (i : Fin 8) (t d : Fin 2048) : ℝ :=
  (∑ s : Fin 2048, tap A t s d * p A i s d + p A i t d * A.skip d) * x0 A i t d

end Cert.Proof.Spec

end
-- ==== Proof.Dft.lean ====
/- The block transform over the reals. A sequence of 512 values and 1023 filter taps are taken to the 512 angles
   `(f + 1/2) * π / 512`, multiplied there as complex numbers, and taken back; the outcome is the plain sum of
   tap times value over all positions. Everything here is real analysis: no program is mentioned. -/
module

public import Mathlib.Analysis.SpecialFunctions.Trigonometric.Basic
public import Mathlib.Analysis.SpecialFunctions.Trigonometric.Complex
public import Mathlib.Algebra.BigOperators.Fin
public import Mathlib.Tactic.Ring
public import Mathlib.Tactic.Linarith
public import Mathlib.Tactic.FieldSimp

@[expose] public section

noncomputable section

namespace Cert.Proof.Dft

open Real Finset

/-- The angle of frequency `f`: half a step past `f` of 512 steps to `π`. -/
def ang (f : ℕ) : ℝ := ((f : ℝ) + 1 / 2) * (π / 512)

/-- The cosines at a nonzero lag below twice the block's length sum to zero: times twice the half angle's sine, the
    sum telescopes to the sine of a multiple of `π`. -/
theorem sum_cos_eq_zero (n : ℤ) (h0 : n ≠ 0) (h : |n| < 1024) : ∑ f : Fin 512, cos (ang f * n) = 0 := by
  have hs : sin (π * n / 1024) ≠ 0 := by
    intro hz
    obtain ⟨k, hk⟩ := sin_eq_zero_iff.mp hz
    have hp := pi_pos
    have : (k : ℝ) * 1024 = n := by
      have := hk
      field_simp at this
      linarith
    have hk' : k * 1024 = n := by exact_mod_cast this
    have hk0 : k ≠ 0 := by rintro rfl; simp at hk'; exact h0 hk'.symm
    rw [← hk', abs_mul] at h
    have := Int.one_le_abs hk0
    norm_num at h
    omega
  have key : ∀ f : ℕ, 2 * sin (π * n / 1024) * cos (ang f * n)
      = sin (((f + 1 : ℕ) : ℝ) * (π * n / 512)) - sin ((f : ℝ) * (π * n / 512)) := by
    intro f
    rw [sin_sub_sin]
    have e1 : (((f + 1 : ℕ) : ℝ) * (π * n / 512) - (f : ℝ) * (π * n / 512)) / 2 = π * n / 1024 := by
      push_cast; ring
    have e2 : (((f + 1 : ℕ) : ℝ) * (π * n / 512) + (f : ℝ) * (π * n / 512)) / 2 = ang f * n := by
      unfold ang; push_cast; ring
    rw [e1, e2]
  have hsum : 2 * sin (π * n / 1024) * ∑ f : Fin 512, cos (ang f * n) = 0 := by
    rw [Fin.sum_univ_eq_sum_range (fun f => cos (ang f * n)) 512, mul_sum]
    rw [sum_congr rfl (fun f _ => key f), sum_range_sub (fun f => sin ((f : ℝ) * (π * n / 512)))]
    have : ((512 : ℕ) : ℝ) * (π * n / 512) = n * π := by push_cast; ring
    rw [this, sin_int_mul_pi]; simp
  rcases mul_eq_zero.mp hsum with h1 | h1
  · rcases mul_eq_zero.mp h1 with h2 | h2
    · norm_num at h2
    · exact absurd h2 hs
  · exact h1

/-- Over the 512 angles the cosines at lag `n` sum to 512 at lag 0 and to 0 at every other lag below 1024. -/
theorem sum_cos (n : ℤ) (h : |n| < 1024) : ∑ f : Fin 512, cos (ang f * n) = if n = 0 then 512 else 0 := by
  split
  · next h0 => subst h0; simp
  · next h0 => exact sum_cos_eq_zero n h0 h

/-- Lag of tap `u` of 1024: taps 1 … 1023 stand for lags -511 … 511. -/
def lag (u : Fin 1024) : ℝ := (u : ℝ) - 512

/-- One angle's share of the product: multiplying the three unit numbers of a tap, a value and an output position. -/
theorem unit_mul (x q e s : ℝ) :
    cos (x * q) * (cos (x * e) * cos (x * s) - -sin (x * e) * -sin (x * s))
      + -sin (x * q) * (cos (x * e) * -sin (x * s) + -sin (x * e) * cos (x * s)) = cos (x * (q - e - s)) := by
  have : x * (q - e - s) = x * q - (x * e + x * s) := by ring
  rw [this, cos_sub, cos_add, sin_add]; ring

/-- The real and imaginary parts of the taps' transform at angle `f` (tap 0 is no lag of the block and is left out). -/
def gre (k : Fin 1024 → ℝ) (f : ℕ) : ℝ := ∑ u : Fin 1024, (if u.val = 0 then 0 else cos (ang f * lag u)) * k u
def gim (k : Fin 1024 → ℝ) (f : ℕ) : ℝ := ∑ u : Fin 1024, (if u.val = 0 then 0 else -sin (ang f * lag u)) * k u
/-- The real and imaginary parts of a block's transform at angle `f`. -/
def pre (p : Fin 512 → ℝ) (f : ℕ) : ℝ := ∑ s : Fin 512, cos (ang f * (s : ℝ)) * p s
def pim (p : Fin 512 → ℝ) (f : ℕ) : ℝ := ∑ s : Fin 512, -sin (ang f * (s : ℝ)) * p s

theorem one_angle (k : Fin 1024 → ℝ) (p : Fin 512 → ℝ) (q : ℝ) (f : ℕ) :
    cos (ang f * q) * (gre k f * pre p f - gim k f * pim p f)
      + -sin (ang f * q) * (gre k f * pim p f + gim k f * pre p f)
      = ∑ s : Fin 512, ∑ u : Fin 1024, (if u.val = 0 then 0 else cos (ang f * (q - lag u - (s : ℝ)))) * (k u * p s) := by
  unfold gre gim pre pim
  rw [sum_mul_sum, sum_mul_sum, sum_mul_sum, sum_mul_sum, ← sum_sub_distrib, ← sum_add_distrib, mul_sum, mul_sum,
    ← sum_add_distrib, sum_comm (s := (univ : Finset (Fin 512)))]
  refine sum_congr rfl fun u _ => ?_
  rw [← sum_sub_distrib, ← sum_add_distrib, mul_sum, mul_sum, ← sum_add_distrib]
  refine sum_congr rfl fun s _ => ?_
  split
  · ring
  · rw [← unit_mul]; ring

/-- A block transformed, multiplied by the transformed taps and transformed back is the plain convolution: the output
    at position `q` sums each value times the tap at lag `q - s`. -/
theorem block (k : Fin 1024 → ℝ) (p : Fin 512 → ℝ) (q : Fin 512) :
    ∑ f : Fin 512, (cos (ang f * (q : ℝ)) * (1 / 512) * (gre k f * pre p f - gim k f * pim p f)
      + -sin (ang f * (q : ℝ)) * (1 / 512) * (gre k f * pim p f + gim k f * pre p f))
      = ∑ s : Fin 512, k ⟨512 + q - s, by omega⟩ * p s := by
  have h1 : ∀ f : Fin 512, (cos (ang f * (q : ℝ)) * (1 / 512) * (gre k f * pre p f - gim k f * pim p f)
      + -sin (ang f * (q : ℝ)) * (1 / 512) * (gre k f * pim p f + gim k f * pre p f))
      = ∑ s : Fin 512, ∑ u : Fin 1024,
          (1 / 512) * ((if u.val = 0 then 0 else cos (ang f * ((q : ℝ) - lag u - (s : ℝ)))) * (k u * p s)) := by
    intro f
    have h := one_angle k p q f
    have h' := congrArg (fun r => (1 / 512) * r) h
    simp only [mul_sum] at h'
    rw [← h']; ring
  rw [sum_congr rfl fun f _ => h1 f, sum_comm]
  refine sum_congr rfl fun s _ => ?_
  rw [sum_comm]
  have h2 : ∀ u : Fin 1024, ∑ f : Fin 512,
      (1 / 512) * ((if u.val = 0 then 0 else cos (ang f * ((q : ℝ) - lag u - (s : ℝ)))) * (k u * p s))
      = if u = ⟨512 + q - s, by omega⟩ then k u * p s else 0 := by
    intro u
    by_cases hu : u.val = 0
    · have : u ≠ ⟨512 + q - s, by omega⟩ := by
        intro h; have := congrArg Fin.val h; simp only at this; omega
      simp [hu, this]
    · simp only [hu, if_false]
      have e : ∀ f : Fin 512, cos (ang f * ((q : ℝ) - lag u - (s : ℝ)))
          = cos (ang f * (((q.val : ℤ) - ((u.val : ℤ) - 512) - (s.val : ℤ) : ℤ) : ℝ)) := by
        intro f; congr 2; unfold lag; push_cast; ring
      simp only [e]
      rw [← mul_sum, ← sum_mul, sum_cos _ (by rw [abs_lt]; omega)]
      by_cases hq : u = ⟨512 + q - s, by omega⟩
      · have hv := congrArg Fin.val hq
        simp only at hv
        rw [if_pos (by omega), if_pos hq]; ring
      · have hv : u.val ≠ 512 + q - s := fun h => hq (Fin.ext h)
        rw [if_neg (by omega), if_neg hq]; ring
  rw [sum_congr rfl fun u _ => h2 u, sum_ite_eq' univ]
  simp

end Cert.Proof.Dft

end
-- ==== Proof.Wave.lean ====
module

public import proofs.«01_k».proof.Proof.Spec
public import proofs.«01_k».proof.Proof.Dft

@[expose] public section

noncomputable section

/-! The kernel's long convolution over the reals: filter blocks and signal blocks transformed, multiplied, summed over
    the signal's blocks and transformed back are the sum over all positions of tap times signal. -/

namespace Cert.Proof.Wave

/-- The filter's lags in order, as reals: the backward filter's taps from the last down, then the forward filter's. -/
def lags (K : Fin 2048 → Fin 4096 → ℝ) (d : Fin 2048) (n : Fin 4096) : ℝ :=
  if n.val = 0 then 0 else if h : 0 < n.val ∧ n.val < 2048 then K ⟨2048 - n.val, by omega⟩ ⟨2048 + d.val, by omega⟩
    else K ⟨n.val - 2048, by omega⟩ ⟨d.val, by omega⟩
/-- The 1024 lags of filter block `n`. -/
def taps (K : Fin 2048 → Fin 4096 → ℝ) (n : Fin 7) (d : Fin 2048) (u : Fin 1024) : ℝ := lags K d ⟨n.val * 512 + u.val, by omega⟩

/-- One table entry: cosines in the first 512 rows, negated sines in the last. -/
def wave (r : Fin 1024) (x : ℝ) : ℝ := if r.val < 512 then Real.cos (Dft.ang r.val * x) else -Real.sin (Dft.ang (r.val - 512 : ℕ) * x)

/-- A filter block's spectrum at a table row. -/
def gspec (k : Fin 1024 → ℝ) (r : Fin 1024) : ℝ := ∑ u : Fin 1024, (if u.val = 0 then 0 else wave r (Dft.lag u)) * k u

/-- A signal block's spectrum at a table row. -/
def ph (p : Fin 2048 → ℝ) (b : Fin 4) (r : Fin 1024) : ℝ := ∑ s : Fin 512, wave r (s : ℝ) * p ⟨512 * b.val + s.val, by omega⟩

/-- The row of a spectrum's cosine part. -/
def lo (f : Fin 512) : Fin 1024 := ⟨f.val, by omega⟩
/-- The row of a spectrum's sine part. -/
def hi (f : Fin 512) : Fin 1024 := ⟨f.val + 512, by omega⟩

theorem wave_lo (f : Fin 512) (x : ℝ) : wave (lo f) x = Real.cos (Dft.ang f * x) := if_pos f.isLt
theorem wave_hi (f : Fin 512) (x : ℝ) : wave (hi f) x = -Real.sin (Dft.ang f * x) := by
  unfold wave
  rw [if_neg (show ¬ (hi f).val < 512 from Nat.not_lt.mpr (Nat.le_add_left _ _)), show (hi f).val - 512 = f.val from Nat.add_sub_cancel _ _]

/-- The signal's block `b`. -/
def part (p : Fin 2048 → ℝ) (b : Fin 4) (s : Fin 512) : ℝ := p ⟨512 * b.val + s.val, by omega⟩

theorem gspec_lo (k : Fin 1024 → ℝ) (f : Fin 512) : gspec k (lo f) = Dft.gre k f := by
  simp only [gspec, Dft.gre, wave_lo]
theorem gspec_hi (k : Fin 1024 → ℝ) (f : Fin 512) : gspec k (hi f) = Dft.gim k f := by
  simp only [gspec, Dft.gim, wave_hi]
theorem ph_lo (p : Fin 2048 → ℝ) (b : Fin 4) (f : Fin 512) : ph p b (lo f) = Dft.pre (part p b) f := by
  simp only [ph, Dft.pre, wave_lo]; rfl
theorem ph_hi (p : Fin 2048 → ℝ) (b : Fin 4) (f : Fin 512) : ph p b (hi f) = Dft.pim (part p b) f := by
  simp only [ph, Dft.pim, wave_hi]; rfl

/-- The filter block that takes signal block `b` to output block `a`. -/
def gi (a b : Fin 4) : Fin 7 := ⟨a.val + 3 - b.val, by omega⟩

/-- Real part of one block product. -/
def tre (g : Fin 7 → Fin 1024 → ℝ) (p : Fin 2048 → ℝ) (a b : Fin 4) (f : Fin 512) : ℝ :=
  gspec (g (gi a b)) (lo f) * ph p b (lo f) - gspec (g (gi a b)) (hi f) * ph p b (hi f)
/-- Imaginary part of one block product. -/
def tim (g : Fin 7 → Fin 1024 → ℝ) (p : Fin 2048 → ℝ) (a b : Fin 4) (f : Fin 512) : ℝ :=
  gspec (g (gi a b)) (lo f) * ph p b (hi f) + gspec (g (gi a b)) (hi f) * ph p b (lo f)
/-- Real part of an output block's spectrum. -/
def yre (g : Fin 7 → Fin 1024 → ℝ) (p : Fin 2048 → ℝ) (a : Fin 4) (f : Fin 512) : ℝ := tre g p a 0 f + tre g p a 1 f + tre g p a 2 f + tre g p a 3 f
/-- Imaginary part of an output block's spectrum. -/
def yim (g : Fin 7 → Fin 1024 → ℝ) (p : Fin 2048 → ℝ) (a : Fin 4) (f : Fin 512) : ℝ := tim g p a 0 f + tim g p a 1 f + tim g p a 2 f + tim g p a 3 f

/-- The tap of a pair of positions in blocks `a` and `b`. -/
theorem tap_eq (A : Spec.Args) (a b : Fin 4) (q s : Fin 512) (d : Fin 2048) :
    taps A.k (gi a b) d ⟨512 + q.val - s.val, by omega⟩ = Spec.tap A ⟨512 * a.val + q.val, by omega⟩ ⟨512 * b.val + s.val, by omega⟩ d := by
  have ha := a.isLt
  have hb := b.isLt
  have hq := q.isLt
  have hs := s.isLt
  have e : (gi a b).val * 512 + (512 + q.val - s.val) = 2048 + (512 * a.val + q.val) - (512 * b.val + s.val) := by
    show (a.val + 3 - b.val) * 512 + _ = _
    omega
  unfold taps lags Spec.tap
  simp only [e]
  rw [if_neg (by omega)]
  by_cases h : 512 * b.val + s.val ≤ 512 * a.val + q.val
  · rw [dif_neg (by omega), if_pos h]
    refine congrArg₂ A.k (Fin.ext ?_) rfl
    exact (by omega : 2048 + (512 * a.val + q.val) - (512 * b.val + s.val) - 2048 = 512 * a.val + q.val - (512 * b.val + s.val))
  · rw [dif_pos (by omega), if_neg h]
    refine congrArg₂ A.k (Fin.ext ?_) rfl
    exact (by omega : 2048 - (2048 + (512 * a.val + q.val) - (512 * b.val + s.val)) = 512 * b.val + s.val - (512 * a.val + q.val))

/-- A sum over four blocks of `n` positions, block by block. -/
theorem sum_four (n : ℕ) (F : Fin (4 * n) → ℝ) : ∑ s, F s = ∑ b : Fin 4, ∑ s : Fin n, F ⟨n * b.val + s.val, by
    have := b.isLt; have := s.isLt; have : n * b.val ≤ n * 3 := Nat.mul_le_mul_left _ (by omega); omega⟩ := by
  rw [← Equiv.sum_comp (finProdFinEquiv (m := 4) (n := n)) F, Fintype.sum_prod_type]
  refine Finset.sum_congr rfl fun b _ => Finset.sum_congr rfl fun s _ => congrArg F (Fin.ext ?_)
  rw [finProdFinEquiv_apply_val]
  exact Nat.add_comm _ _

/-- A sum over 2048 positions by blocks of 512. -/
theorem sum_blocks (F : Fin 2048 → ℝ) : ∑ s : Fin 2048, F s = ∑ b : Fin 4, ∑ s : Fin 512, F ⟨512 * b.val + s.val, by omega⟩ :=
  sum_four 512 F

/-- An output block, transformed back, is the two-sided convolution. -/
theorem back (A : Spec.Args) (p : Fin 2048 → ℝ) (a : Fin 4) (q : Fin 512) (d : Fin 2048) :
    (∑ f : Fin 512, wave (lo f) (q : ℝ) * (1 / 512) * yre (fun n => taps A.k n d) p a f)
      + (∑ f : Fin 512, wave (hi f) (q : ℝ) * (1 / 512) * yim (fun n => taps A.k n d) p a f)
      = ∑ s : Fin 2048, Spec.tap A ⟨512 * a.val + q.val, by omega⟩ s d * p s := by
  have one : ∀ b : Fin 4, ∑ f : Fin 512, (wave (lo f) (q : ℝ) * (1 / 512) * tre (fun n => taps A.k n d) p a b f
      + wave (hi f) (q : ℝ) * (1 / 512) * tim (fun n => taps A.k n d) p a b f)
      = ∑ s : Fin 512, Spec.tap A ⟨512 * a.val + q.val, by omega⟩ ⟨512 * b.val + s.val, by omega⟩ d * p ⟨512 * b.val + s.val, by omega⟩ := by
    intro b
    have h := Dft.block (taps A.k (gi a b) d) (part p b) q
    refine Eq.trans (Finset.sum_congr rfl fun f _ => ?_) (h.trans (Finset.sum_congr rfl fun s _ => ?_))
    · simp only [tre, tim, gspec_lo, gspec_hi, ph_lo, ph_hi, wave_lo, wave_hi]
    · rw [tap_eq]; rfl
  rw [sum_blocks, Fin.sum_univ_four, ← one 0, ← one 1, ← one 2, ← one 3, ← Finset.sum_add_distrib, ← Finset.sum_add_distrib, ← Finset.sum_add_distrib, ← Finset.sum_add_distrib]
  refine Finset.sum_congr rfl fun f _ => ?_
  unfold yre yim
  ring

end Cert.Proof.Wave

end
-- ==== Proof.KerBlock.lean ====
module

public import proofs.«01_k».proof.Proof.BodyOut
public import proofs.«01_k».proof.Proof.Wave

@[expose] public section

set_option maxRecDepth 16384

noncomputable section

/-! One grid step's block of the result over the reals: when the step's operand blocks hold reals, each stage of the
    body holds the reals the specification names, and the block written is the specification's. -/

namespace Cert.Proof.Block

open Cert.KernelIdeal Cert.KernelIdeal.Gen Idealize.ShloMosaic Idealize.ShloMosaic.TcCoe Cert.Proof.Body

/-- Channel `d` of tile `j`. -/
def dd (j : Fin 8) (d : Fin 256) : Fin 2048 := ⟨256 * j.val + d.val, by omega⟩
/-- Channel `d` of tile `j` in branch `n` of the projection. -/
def ch (n : Fin 3) (j : Fin 8) (d : Fin 256) : Fin 6144 := ⟨2048 * n.val + (256 * j.val + d.val), by omega⟩

variable (A : Spec.Args) (i j : Fin 8)

theorem zv_real (x : Vec Ideal S1x2048x2048 .bf16) (w : Vec Ideal S2048x256 .bf16) (b : Vec Ideal S1x256 .f32) (n : Fin 3)
    (hx : ∀ r k, x (ix3 0 r k) = ((A.h i r k : ℝ) : EReal)) (hw : ∀ k d, w (ix2 k d) = ((A.w k (ch n j d) : ℝ) : EReal))
    (hb : ∀ d, b (ix2 0 d) = ((A.b (ch n j d) : ℝ) : EReal)) (r : Fin 2048) (d : Fin 256) :
    zv x w b r d = ((Spec.z A i r (ch n j d) : ℝ) : EReal) := by
  unfold zv Spec.z
  rw [EReal.coe_add, Spec.coe_sum]
  refine congrArg₂ (· + ·) (Finset.sum_congr rfl fun k _ => ?_) (hb d)
  rw [EReal.coe_mul]
  exact congrArg₂ (· * ·) (hx r k) (hw k d)

section
variable (Z : S3x2048x256.Idx → EReal) (hZ : ∀ n r d, Z (ix3 n r d) = ((Spec.z A i r (ch n j d) : ℝ) : EReal))
include hZ

theorem zprev_real (n : Fin 3) (r : Fin 2048) (d : Fin 256) : Body.zprev Z n r d = ((Spec.zprev A i r (ch n j d) : ℝ) : EReal) := by
  unfold Body.zprev Spec.zprev
  by_cases h : r.val = 0
  · rw [if_pos h, dif_neg (by omega)]; rfl
  · rw [if_neg h, dif_pos (by omega)]; exact hZ _ _ _

theorem znext_real (n : Fin 3) (r : Fin 2048) (d : Fin 256) : Body.znext Z n r d = ((Spec.znext A i r (ch n j d) : ℝ) : EReal) := by
  unfold Body.znext Spec.znext
  by_cases h : r.val + 1 < 2048
  · rw [dif_pos h, dif_pos h]; exact hZ _ _ _
  · rw [dif_neg h, dif_neg h]; rfl

theorem sc_real (w : Vec Ideal S3x256 .f32) (b : Vec Ideal S1x256 .f32) (n : Fin 3)
    (hw : ∀ u d, w (ix2 u d) = ((A.ws u (ch n j d) : ℝ) : EReal)) (hb : ∀ d, b (ix2 0 d) = ((A.bs (ch n j d) : ℝ) : EReal))
    (r : Fin 2048) (d : Fin 256) : Body.sc Z n w b r d = ((Spec.sc A i r (ch n j d) : ℝ) : EReal) := by
  unfold Body.sc Spec.sc
  rw [zprev_real A i j Z hZ, znext_real A i j Z hZ, EReal.coe_add, EReal.coe_add, EReal.coe_add, EReal.coe_mul, EReal.coe_mul, EReal.coe_mul]
  exact congrArg₂ (· + ·) (congrArg₂ (· + ·) (congrArg₂ (· + ·) (congrArg₂ (· * ·) (hw 0 d) rfl) (congrArg₂ (· * ·) (hw 1 d) (hZ n r d)))
    (congrArg₂ (· * ·) (hw 2 d) rfl)) (hb d)
end

theorem ch0 (d : Fin 256) : ch 0 j d = ⟨(dd j d).val, by omega⟩ := Fin.ext (by show 2048 * 0 + (256 * j.val + d.val) = 256 * j.val + d.val; omega)

section
variable (PH' : S4x1024x256.Idx → EReal) (g : Vec Ideal S7x1024x256 .f32) (d : Fin 256) (p : Fin 2048 → ℝ) (G : Fin 7 → Fin 1024 → ℝ)
  (hP : ∀ b r, PH' (ix3 b r d) = ((Wave.ph p b r : ℝ) : EReal)) (hg : ∀ n r, g (ix3 n r d) = ((Wave.gspec (G n) r : ℝ) : EReal))
include hP hg

theorem tre_real (a b : Fin 4) (f : Fin 512) : Body.tre PH' g a b f d = ((Wave.tre G p a b f : ℝ) : EReal) := by
  unfold Body.tre Wave.tre
  rw [EReal.coe_sub, EReal.coe_mul, EReal.coe_mul]
  exact congrArg₂ (· - ·) (congrArg₂ (· * ·) (hg _ _) (hP _ _)) (congrArg₂ (· * ·) (hg _ _) (hP _ _))

theorem tim_real (a b : Fin 4) (f : Fin 512) : Body.tim PH' g a b f d = ((Wave.tim G p a b f : ℝ) : EReal) := by
  unfold Body.tim Wave.tim
  rw [EReal.coe_add, EReal.coe_mul, EReal.coe_mul]
  exact congrArg₂ (· + ·) (congrArg₂ (· * ·) (hg _ _) (hP _ _)) (congrArg₂ (· * ·) (hg _ _) (hP _ _))

theorem yre_real (a : Fin 4) (f : Fin 512) : Body.yre PH' g a f d = ((Wave.yre G p a f : ℝ) : EReal) := by
  unfold Body.yre Wave.yre
  simp only [tre_real PH' g d p G hP hg, EReal.coe_add]

theorem yim_real (a : Fin 4) (f : Fin 512) : Body.yim PH' g a f d = ((Wave.yim G p a f : ℝ) : EReal) := by
  unfold Body.yim Wave.yim
  simp only [tim_real PH' g d p G hP hg, EReal.coe_add]

/-- The inverse table times the output block's spectrum. -/
theorem back_real (V : Vec Ideal S512x1024 .bf16) (hV : ∀ q r, V (ix2 q r) = ((Wave.wave r (q.val : ℝ) * (1 / 512) : ℝ) : EReal))
    (a : Fin 4) (q : Fin 512) : (∑ f : Fin 1024, V (ix2 q f) * Y PH' g (ix3 a f d)) =
    (((∑ f : Fin 512, Wave.wave (Wave.lo f) (q : ℝ) * (1 / 512) * Wave.yre G p a f)
      + (∑ f : Fin 512, Wave.wave (Wave.hi f) (q : ℝ) * (1 / 512) * Wave.yim G p a f) : ℝ) : EReal) := by
  refine (Fin.sum_univ_add (a := 512) (b := 512) (fun f : Fin 1024 => (V (ix2 q f) : EReal) * Y PH' g (ix3 a f d))).trans ?_
  rw [EReal.coe_add, Spec.coe_sum, Spec.coe_sum]
  refine congrArg₂ (· + ·) (Finset.sum_congr rfl fun f _ => ?_) (Finset.sum_congr rfl fun f _ => ?_)
  · rw [EReal.coe_mul]
    exact congrArg₂ (· * ·) (hV q (Wave.lo f)) ((Y_lo PH' g _ a f d rfl).trans (yre_real PH' g d p G hP hg a f))
  · have e : (Fin.natAdd 512 f : Fin 1024) = Wave.hi f := Fin.ext (Nat.add_comm _ _)
    rw [EReal.coe_mul]
    refine congrArg₂ (· * ·) ((congrArg (fun r => V (ix2 q r)) e).trans (hV q (Wave.hi f)))
      ((Y_hi PH' g _ a f d (congrArg (fun r => ix3 a r d) e)).trans (yim_real PH' g d p G hP hg a f))
end

variable (x0 : Vec Ideal S1x2048x2048 .bf16) (x1 : Vec Ideal S2048x256 .bf16) (x2 : Vec Ideal S2048x256 .bf16) (x3 : Vec Ideal S2048x256 .bf16) (x4 : Vec Ideal S1x256 .f32) (x5 : Vec Ideal S1x256 .f32) (x6 : Vec Ideal S1x256 .f32) (x7 : Vec Ideal S3x256 .f32) (x8 : Vec Ideal S3x256 .f32) (x9 : Vec Ideal S3x256 .f32) (x10 : Vec Ideal S1x256 .f32) (x11 : Vec Ideal S1x256 .f32) (x12 : Vec Ideal S1x256 .f32) (x13 : Vec Ideal S7x1024x256 .f32) (x14 : Vec Ideal S1x256 .f32) (x15 : Vec Ideal S1024x512 .bf16) (x16 : Vec Ideal S512x1024 .bf16)

/-- The operand blocks of the step at batch `i` and channel tile `j` hold the reals of `A`. -/
structure Holds : Prop where
  h0 : ∀ r k, x0 (ix3 0 r k) = ((A.h i r k : ℝ) : EReal)
  h1 : ∀ k d, x1 (ix2 k d) = ((A.w k (ch 0 j d) : ℝ) : EReal)
  h2 : ∀ k d, x2 (ix2 k d) = ((A.w k (ch 1 j d) : ℝ) : EReal)
  h3 : ∀ k d, x3 (ix2 k d) = ((A.w k (ch 2 j d) : ℝ) : EReal)
  h4 : ∀ d, x4 (ix2 0 d) = ((A.b (ch 0 j d) : ℝ) : EReal)
  h5 : ∀ d, x5 (ix2 0 d) = ((A.b (ch 1 j d) : ℝ) : EReal)
  h6 : ∀ d, x6 (ix2 0 d) = ((A.b (ch 2 j d) : ℝ) : EReal)
  h7 : ∀ u d, x7 (ix2 u d) = ((A.ws u (ch 0 j d) : ℝ) : EReal)
  h8 : ∀ u d, x8 (ix2 u d) = ((A.ws u (ch 1 j d) : ℝ) : EReal)
  h9 : ∀ u d, x9 (ix2 u d) = ((A.ws u (ch 2 j d) : ℝ) : EReal)
  h10 : ∀ d, x10 (ix2 0 d) = ((A.bs (ch 0 j d) : ℝ) : EReal)
  h11 : ∀ d, x11 (ix2 0 d) = ((A.bs (ch 1 j d) : ℝ) : EReal)
  h12 : ∀ d, x12 (ix2 0 d) = ((A.bs (ch 2 j d) : ℝ) : EReal)
  h13 : ∀ n r d, x13 (ix3 n r d) = ((Wave.gspec (Wave.taps A.k n (dd j d)) r : ℝ) : EReal)
  h14 : ∀ d, x14 (ix2 0 d) = ((A.skip (dd j d) : ℝ) : EReal)
  h15 : ∀ r q, x15 (ix2 r q) = ((Wave.wave r (q.val : ℝ) : ℝ) : EReal)
  h16 : ∀ q r, x16 (ix2 q r) = ((Wave.wave r (q.val : ℝ) * (1 / 512) : ℝ) : EReal)

variable (H : Holds A i j x0 x1 x2 x3 x4 x5 x6 x7 x8 x9 x10 x11 x12 x13 x14 x15 x16)
include H

theorem Z_real (n : Fin 3) (r : Fin 2048) (d : Fin 256) : Z x0 x1 x2 x3 x4 x5 x6 (ix3 n r d) = ((Spec.z A i r (ch n j d) : ℝ) : EReal) := by
  match n with
  | 0 => exact (if_pos rfl).trans (zv_real A i j x0 x1 x4 0 H.h0 H.h1 H.h4 r d)
  | 1 => exact ((if_neg Nat.one_ne_zero).trans (if_pos rfl)).trans (zv_real A i j x0 x2 x5 1 H.h0 H.h2 H.h5 r d)
  | 2 => exact ((if_neg (by decide : ¬ (2 : ℕ) = 0)).trans (if_neg (by decide : ¬ (2 : ℕ) = 1))).trans (zv_real A i j x0 x3 x6 2 H.h0 H.h3 H.h6 r d)

theorem Pg_real (r : Fin 2048) (d : Fin 256) : Pg (Z x0 x1 x2 x3 x4 x5 x6) x8 x9 x11 x12 (ix2 r d) = ((Spec.p A i r (dd j d) : ℝ) : EReal) := by
  have hZ := Z_real A i j x0 x1 x2 x3 x4 x5 x6 x7 x8 x9 x10 x11 x12 x13 x14 x15 x16 H
  unfold Spec.p
  rw [EReal.coe_mul]
  exact congrArg₂ (· * ·) (sc_real A i j _ hZ x9 x12 2 H.h9 H.h12 r d) (sc_real A i j _ hZ x8 x11 1 H.h8 H.h11 r d)

theorem Xg_real (r : Fin 2048) (d : Fin 256) : Xg (Z x0 x1 x2 x3 x4 x5 x6) x7 x10 (ix2 r d) = ((Spec.x0 A i r (dd j d) : ℝ) : EReal) := by
  have hZ := Z_real A i j x0 x1 x2 x3 x4 x5 x6 x7 x8 x9 x10 x11 x12 x13 x14 x15 x16 H
  refine (sc_real A i j _ hZ x7 x10 0 H.h7 H.h10 r d).trans ?_
  unfold Spec.x0
  rw [ch0]

theorem PH_real (b : Fin 4) (r : Fin 1024) (d : Fin 256) :
    PH x15 (Pg (Z x0 x1 x2 x3 x4 x5 x6) x8 x9 x11 x12) (ix3 b r d) = ((Wave.ph (fun s => Spec.p A i s (dd j d)) b r : ℝ) : EReal) := by
  unfold Wave.ph
  rw [Spec.coe_sum]
  refine Finset.sum_congr rfl fun s _ => ?_
  rw [EReal.coe_mul]
  exact congrArg₂ (· * ·) (H.h15 r s) (Pg_real A i j x0 x1 x2 x3 x4 x5 x6 x7 x8 x9 x10 x11 x12 x13 x14 x15 x16 H _ d)

/-- The block the step writes is the specification's. -/
theorem out_real (t : Fin 2048) (d : Fin 256) :
    Out x16 (Y (PH x15 (Pg (Z x0 x1 x2 x3 x4 x5 x6) x8 x9 x11 x12)) x13) (Pg (Z x0 x1 x2 x3 x4 x5 x6) x8 x9 x11 x12) (Xg (Z x0 x1 x2 x3 x4 x5 x6) x7 x10) x14 (ix3 0 t d)
      = ((Spec.out A i t (dd j d) : ℝ) : EReal) := by
  have et : 512 * (t.val / 512) + t.val % 512 = t.val := Nat.div_add_mod _ _
  have hx := PH_real A i j x0 x1 x2 x3 x4 x5 x6 x7 x8 x9 x10 x11 x12 x13 x14 x15 x16 H
  have hp := Pg_real A i j x0 x1 x2 x3 x4 x5 x6 x7 x8 x9 x10 x11 x12 x13 x14 x15 x16 H
  have hX := Xg_real A i j x0 x1 x2 x3 x4 x5 x6 x7 x8 x9 x10 x11 x12 x13 x14 x15 x16 H
  have hb := back_real _ x13 d (fun s => Spec.p A i s (dd j d)) (fun n => Wave.taps A.k n (dd j d)) (fun b r => hx b r d) (fun n r => H.h13 n r d) x16 H.h16
    ⟨t.val / 512, by omega⟩ ⟨t.val % 512, by omega⟩
  have e : (⟨512 * (t.val / 512) + t.val % 512, by omega⟩ : Fin 2048) = t := Fin.ext et
  rw [Wave.back] at hb
  unfold Spec.out
  rw [EReal.coe_mul, EReal.coe_add, EReal.coe_mul]
  refine congrArg₂ (· * ·) (congrArg₂ (· + ·) (hb.trans ?_) (congrArg₂ (· * ·) ((hp _ d).trans ?_) (H.h14 d))) ((hX _ d).trans ?_)
  · exact congrArg (fun u => ((∑ s : Fin 2048, Spec.tap A u s (dd j d) * Spec.p A i s (dd j d) : ℝ) : EReal)) e
  · exact congrArg (fun u => ((Spec.p A i u (dd j d) : ℝ) : EReal)) e
  · exact congrArg (fun u => ((Spec.x0 A i u (dd j d) : ℝ) : EReal)) e

end Cert.Proof.Block

end
-- ==== Proof.KerIdx.lean ====
module

public import proofs.«01_k».proof.Proof.KerHost
public import proofs.«01_k».proof.Proof.KerBlock
public import Idealize.ShloMosaic.Lib.Pipeline.ValueKit

@[expose] public section

set_option maxRecDepth 16384

noncomputable section

/-! Where each grid step's operand blocks lie in their arrays. -/

namespace Cert.Proof.KerValue

open Cert.KernelIdeal Cert.KernelIdeal.Gen Idealize.ShloMosaic Idealize.ShloMosaic.TcCoe Cert.Proof.Block
open Idealize.ShloMosaic.Pipeline (Dat)

/-- Every window's block index at every step: the batch is the fast grid coordinate, the channel tile the slow one. -/
theorem idx : ∀ t : Fin cfg0.N, win0_0.index t = ![t.val % 8, 0, 0]
    ∧ win0_1.index t = ![0, t.val / 8] ∧ win0_2.index t = ![0, 8 + t.val / 8] ∧ win0_3.index t = ![0, 16 + t.val / 8]
    ∧ win0_4.index t = ![0, t.val / 8] ∧ win0_5.index t = ![0, 8 + t.val / 8] ∧ win0_6.index t = ![0, 16 + t.val / 8]
    ∧ win0_7.index t = ![0, t.val / 8] ∧ win0_8.index t = ![0, 8 + t.val / 8] ∧ win0_9.index t = ![0, 16 + t.val / 8]
    ∧ win0_10.index t = ![0, t.val / 8] ∧ win0_11.index t = ![0, 8 + t.val / 8] ∧ win0_12.index t = ![0, 16 + t.val / 8]
    ∧ win0_13.index t = ![0, 0, t.val / 8] ∧ win0_14.index t = ![0, t.val / 8] ∧ win0_15.index t = ![0, 0] ∧ win0_16.index t = ![0, 0]
    ∧ win0_17.index t = ![t.val % 8, 0, t.val / 8] ∧ t.val < 64 :=
  (by decide +kernel : ∀ t : Fin grid0.N, _)

variable (m : (ℓ : Loc nD τ sig) → Buf (Elt Ideal) ℓ) (c : Dev nD) (t : Fin cfg0.N)

theorem tlt : t.val / 8 < 8 := by
  have := (idx t).2.2.2.2.2.2.2.2.2.2.2.2.2.2.2.2.2.2
  omega
/-- The step's batch. -/
def bt : Fin 8 := ⟨t.val % 8, by omega⟩
/-- The step's channel tile. -/
def jt : Fin 8 := ⟨t.val / 8, tlt t⟩

theorem r0 (r k : Fin 2048) : (show Vec Ideal S1x2048x2048 .bf16 from iblk m c 0 t) (ix3 0 r k) = (show Vec Ideal S8x2048x2048 .bf16 from V m c main_v62) (ix3 (bt t) r k) := by
  blk_simp [iblk]
  blk_ext [idx t, ch, dd, bt, jt]

theorem r1 (k : Fin 2048) (d : Fin 256) : (show Vec Ideal S2048x256 .bf16 from iblk m c 1 t) (ix2 k d) = (show Vec Ideal S2048x6144 .bf16 from V m c main_v64) (ix2 k (ch 0 (jt t) d)) := by
  blk_simp [iblk]
  blk_ext [idx t, ch, dd, bt, jt]

theorem r2 (k : Fin 2048) (d : Fin 256) : (show Vec Ideal S2048x256 .bf16 from iblk m c 2 t) (ix2 k d) = (show Vec Ideal S2048x6144 .bf16 from V m c main_v64) (ix2 k (ch 1 (jt t) d)) := by
  blk_simp [iblk]
  blk_ext [idx t, ch, dd, bt, jt]

theorem r3 (k : Fin 2048) (d : Fin 256) : (show Vec Ideal S2048x256 .bf16 from iblk m c 3 t) (ix2 k d) = (show Vec Ideal S2048x6144 .bf16 from V m c main_v64) (ix2 k (ch 2 (jt t) d)) := by
  blk_simp [iblk]
  blk_ext [idx t, ch, dd, bt, jt]

theorem r4 (d : Fin 256) : (show Vec Ideal S1x256 .f32 from iblk m c 4 t) (ix2 0 d) = (show Vec Ideal S1x6144 .f32 from V m c main_v66) (ix2 0 (ch 0 (jt t) d)) := by
  blk_simp [iblk]
  blk_ext [idx t, ch, dd, bt, jt]

theorem r5 (d : Fin 256) : (show Vec Ideal S1x256 .f32 from iblk m c 5 t) (ix2 0 d) = (show Vec Ideal S1x6144 .f32 from V m c main_v66) (ix2 0 (ch 1 (jt t) d)) := by
  blk_simp [iblk]
  blk_ext [idx t, ch, dd, bt, jt]

theorem r6 (d : Fin 256) : (show Vec Ideal S1x256 .f32 from iblk m c 6 t) (ix2 0 d) = (show Vec Ideal S1x6144 .f32 from V m c main_v66) (ix2 0 (ch 2 (jt t) d)) := by
  blk_simp [iblk]
  blk_ext [idx t, ch, dd, bt, jt]

theorem r7 (u : Fin 3) (d : Fin 256) : (show Vec Ideal S3x256 .f32 from iblk m c 7 t) (ix2 u d) = (show Vec Ideal S3x6144 .f32 from V m c main_v67) (ix2 u (ch 0 (jt t) d)) := by
  blk_simp [iblk]
  blk_ext [idx t, ch, dd, bt, jt]

theorem r8 (u : Fin 3) (d : Fin 256) : (show Vec Ideal S3x256 .f32 from iblk m c 8 t) (ix2 u d) = (show Vec Ideal S3x6144 .f32 from V m c main_v67) (ix2 u (ch 1 (jt t) d)) := by
  blk_simp [iblk]
  blk_ext [idx t, ch, dd, bt, jt]

theorem r9 (u : Fin 3) (d : Fin 256) : (show Vec Ideal S3x256 .f32 from iblk m c 9 t) (ix2 u d) = (show Vec Ideal S3x6144 .f32 from V m c main_v67) (ix2 u (ch 2 (jt t) d)) := by
  blk_simp [iblk]
  blk_ext [idx t, ch, dd, bt, jt]

theorem r10 (d : Fin 256) : (show Vec Ideal S1x256 .f32 from iblk m c 10 t) (ix2 0 d) = (show Vec Ideal S1x6144 .f32 from V m c main_v69) (ix2 0 (ch 0 (jt t) d)) := by
  blk_simp [iblk]
  blk_ext [idx t, ch, dd, bt, jt]

theorem r11 (d : Fin 256) : (show Vec Ideal S1x256 .f32 from iblk m c 11 t) (ix2 0 d) = (show Vec Ideal S1x6144 .f32 from V m c main_v69) (ix2 0 (ch 1 (jt t) d)) := by
  blk_simp [iblk]
  blk_ext [idx t, ch, dd, bt, jt]

theorem r12 (d : Fin 256) : (show Vec Ideal S1x256 .f32 from iblk m c 12 t) (ix2 0 d) = (show Vec Ideal S1x6144 .f32 from V m c main_v69) (ix2 0 (ch 2 (jt t) d)) := by
  blk_simp [iblk]
  blk_ext [idx t, ch, dd, bt, jt]

theorem r13 (n : Fin 7) (r : Fin 1024) (d : Fin 256) : (show Vec Ideal S7x1024x256 .f32 from iblk m c 13 t) (ix3 n r d) = (show Vec Ideal S7x1024x2048 .f32 from V m c main_v61) (ix3 n r (dd (jt t) d)) := by
  blk_simp [iblk]
  blk_ext [idx t, ch, dd, bt, jt]

theorem r14 (d : Fin 256) : (show Vec Ideal S1x256 .f32 from iblk m c 14 t) (ix2 0 d) = (show Vec Ideal S1x2048 .f32 from V m c main_v71) (ix2 0 (dd (jt t) d)) := by
  blk_simp [iblk]
  blk_ext [idx t, ch, dd, bt, jt]

theorem r15 (r : Fin 1024) (q : Fin 512) : (show Vec Ideal S1024x512 .bf16 from iblk m c 15 t) (ix2 r q) = (show Vec Ideal S1024x512 .bf16 from V m c main_v34) (ix2 r q) := by
  blk_simp [iblk]
  blk_ext [idx t, ch, dd, bt, jt]

theorem r16 (q : Fin 512) (r : Fin 1024) : (show Vec Ideal S512x1024 .bf16 from iblk m c 16 t) (ix2 q r) = (show Vec Ideal S512x1024 .bf16 from V m c main_v36) (ix2 q r) := by
  blk_simp [iblk]
  blk_ext [idx t, ch, dd, bt, jt]

end Cert.Proof.KerValue

end
-- ==== Proof.KerTable.lean ====
module

public import proofs.«01_k».proof.Proof.KerHost
public import proofs.«01_k».proof.Proof.Wave

@[expose] public section

set_option maxRecDepth 16384

noncomputable section

/-! The host's tables and spectra at an index, over the reals. -/

namespace Cert.Proof.KerHost

open Cert.KernelIdeal Cert.KernelIdeal.Gen Idealize.ShloMosaic Idealize.ShloMosaic.StableHlo

theorem bits_zero : Ideal.ofBits .f32 0x00000000#32 = ((0 : ℝ) : EReal) := by simp [Ideal.ofBits, Ideal.ieee]
theorem bits_neg_one : Ideal.ofBits .f32 0xBF800000#32 = ((-1 : ℝ) : EReal) := by simp [Ideal.ofBits, Ideal.ieee, -EReal.coe_mul]; norm_num
theorem bits_half : Ideal.ofBits .f32 0x3F000000#32 = ((1 / 2 : ℝ) : EReal) := by simp [Ideal.ofBits, Ideal.ieee, -EReal.coe_mul]; norm_num
theorem bits_inv : Ideal.ofBits .f32 0x3B000000#32 = ((1 / 512 : ℝ) : EReal) := by simp [Ideal.ofBits, Ideal.ieee, -EReal.coe_mul]; norm_num
theorem bits_512 : Ideal.ofBits .f32 0x44000000#32 = ((512 : ℝ) : EReal) := by simp [Ideal.ofBits, Ideal.ieee, -EReal.coe_mul]; norm_num

/-- The angle of the point one to the left of the origin. -/
theorem piA_apply (i : S_.Idx) : piA i = ((Real.pi : ℝ) : EReal) := by
  show Ideal.atan2 (Ideal.ofBits .f32 0x00000000#32) (Ideal.ofBits .f32 0xBF800000#32) = _
  rw [bits_zero, bits_neg_one]
  show (((if (0 : ℝ) < -1 then _ else if (-1 : ℝ) < 0 then (if (0 : ℝ) ≤ 0 then Real.arctan (0 / -1) + Real.pi else _) else _ : ℝ)) : EReal) = _
  rw [if_neg (by norm_num), if_pos (by norm_num), if_pos le_rfl]
  simp

theorem count (n : ℕ) (h : n < 1024) : (FloatOps.sitofp FTy.f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_ofNat', Int.bmod_def]
    omega
  rw [e, Int.cast_natCast]

theorem angA_apply (f q : Fin 512) : angA (ix2 f q) = ((Dft.ang f * (q : ℝ) : ℝ) : EReal) := by
  pointwise [angA, stepA, colA]
  rw [count _ (by omega), count _ (by omega), piA_apply, bits_half, bits_inv, ← EReal.coe_add, ← EReal.coe_mul, ← EReal.coe_mul, ← EReal.coe_mul]
  congr 1
  unfold Dft.ang
  ring

theorem angN_apply (f q : Fin 512) : angN (ix2 f q) = ((Dft.ang f * ((q : ℝ) - 512) : ℝ) : EReal) := by
  pointwise [angN, stepA, colA]
  rw [count _ (by omega), count _ (by omega), piA_apply, bits_half, bits_inv, bits_512, ← EReal.coe_add, ← EReal.coe_mul, ← EReal.coe_mul, ← EReal.coe_sub, ← EReal.coe_mul]
  congr 1
  unfold Dft.ang
  ring

theorem stack_apply (x : FVec Ideal S512x512 .f32) (r : Fin 1024) (q : Fin 512) : stack x (ix2 r q) =
    if h : r.val < 512 then Ideal.cos (x (ix2 ⟨r.val, h⟩ q)) else -Ideal.sin (x (ix2 ⟨r.val - 512, by omega⟩ q)) := by
  pointwise [stack]

theorem fwdA_apply (r : Fin 1024) (q : Fin 512) : fwdA (ix2 r q) = stack angA (ix2 r q) := by
  pointwise [fwdA]

theorem enegA_apply (r : Fin 1024) (q : Fin 512) : enegA (ix2 r q) = if q.val = 0 then 0 else stack angN (ix2 r q) := by
  have h : enegA (ix2 r q) = Scalar.select (IntOp.cmpi CmpIPredicate.eq (BitVec.ofNat 32 q.val) 0#32) 0 (stack angN (ix2 r q)) := by
    pointwise [enegA]
  rw [h]
  simp only [hlo_ix]
  rw [show (BitVec.ofNat 32 q.val).toNat = q.val from by rw [BitVec.toNat_ofNat]; omega]
  rfl

theorem invA_apply (q : Fin 512) (r : Fin 1024) : invA (ix2 q r) =
   (if h : r.val < 512 then Ideal.cos (angA (ix2 ⟨r.val, h⟩ q)) else -Ideal.sin (angA (ix2 ⟨r.val - 512, by omega⟩ q))) * ((1 / 512 : ℝ) : EReal) := by
  pointwise [invA]
  rw [bits_inv]

theorem lagsA_apply (k : FVec Ideal S2048x4096 .f32) (n : Fin 4096) (d : Fin 2048) : lagsA k (ix2 n d) =
    if n.val = 0 then 0 else if h : 0 < n.val ∧ n.val < 2048 then k (ix2 ⟨2048 - n.val, by omega⟩ ⟨2048 + d.val, by omega⟩)
      else k (ix2 ⟨n.val - 2048, by omega⟩ ⟨d.val, by omega⟩) := by
  pointwise [lagsA]
  by_cases h0 : n.val = 0
  · rw [dif_pos (by omega), if_pos h0]
  rw [dif_neg (by omega), if_neg h0]
  by_cases h1 : n.val < 2048
  · rw [dif_pos (by omega), dif_pos ⟨by omega, h1⟩]
    congr 2
    · refine Fin.ext ?_
      show 1 + ((if (0 : Fin 2) ∈ [(0 : Fin 2)] then (⟨n.val - 1, _⟩ : Fin 2047).rev else _ : Fin 2047).val) = 2048 - n.val
      rw [if_pos (by decide), Fin.val_rev]
      show 1 + (2047 - (n.val - 1 + 1)) = _
      omega
  · rw [dif_neg (by omega), dif_neg (by omega)]
    congr 2

theorem blocksA_apply (k : FVec Ideal S2048x4096 .f32) (n : Fin 8) (s : Fin 512) (d : Fin 2048) :
    blocksA k (ix3 n s d) = lagsA k (ix2 ⟨n.val * 512 + s.val, by omega⟩ d) := by
  pointwise [blocksA]

theorem red_apply (x : FVec Ideal S7x1024x512x2048 .f32) (n : Fin 7) (r : Fin 1024) (d : Fin 2048) :
    Host.reduceAdd x (constant S_ .f32 0x00000000#32) reducesTo_S7x1024x512x2048_S7x1024x2048_d2 h_S_ (ix3 n r d) = ∑ s : Fin 512, x (ix4 n r s d) := by
  pointwise

theorem table_apply (e : FVec Ideal S1024x512 .bf16) (n : Fin 7) (r : Fin 1024) (s : Fin 512) (d : Fin 2048) :
    (broadcastInDim S7x1024x512x2048 ![0, 1, 2, 3] bcast_S1x1024x512x1_S7x1024x512x2048_0_1_2_3 (broadcastInDim S1x1024x512x1 ![1, 2] bcast_S1024x512_S1x1024x512x1_1_2 (extf .f32 e bitsLt_bf16_f32 : FVec Ideal S1024x512 .f32)))
      (ix4 n r s d) = e (ix2 r s) := by
  pointwise

theorem block_apply (o : ℕ) (ho : o < 2) (h : S8x512x2048.Slices ![o, 0, 0] S7x512x2048) (b : FVec Ideal S8x512x2048 .f32) (n : Fin 7) (r : Fin 1024) (s : Fin 512) (d : Fin 2048) :
    (broadcastInDim S7x1024x512x2048 ![0, 1, 2, 3] bcast_S7x1x512x2048_S7x1024x512x2048_0_1_2_3 (broadcastInDim S7x1x512x2048 ![0, 2, 3] bcast_S7x512x2048_S7x1x512x2048_0_2_3 (extractStridedSlice S7x512x2048 ![o, 0, 0] b h)))
      (ix4 n r s d) = b (ix3 ⟨o + n.val, by omega⟩ s d) := by
  pointwise

theorem timesA_apply (o : ℕ) (ho : o < 2) (h : S8x512x2048.Slices ![o, 0, 0] S7x512x2048) (e : FVec Ideal S1024x512 .bf16) (b : FVec Ideal S8x512x2048 .f32)
    (n : Fin 7) (r : Fin 1024) (d : Fin 2048) : timesA o h e b (ix3 n r d) = ∑ s : Fin 512, e (ix2 r s) * b (ix3 ⟨o + n.val, by omega⟩ s d) := by
  refine (red_apply _ n r d).trans (Finset.sum_congr rfl fun s _ => ?_)
  exact congrArg₂ (· * ·) (table_apply e n r s d) (block_apply o ho h b n r s d)

theorem specA_apply (k : FVec Ideal S2048x4096 .f32) (n : Fin 7) (r : Fin 1024) (d : Fin 2048) :
    specA k (ix3 n r d) = (∑ s : Fin 512, enegA (ix2 r s) * blocksA k (ix3 ⟨0 + n.val, by omega⟩ s d))
      + ∑ s : Fin 512, fwdA (ix2 r s) * blocksA k (ix3 ⟨1 + n.val, by omega⟩ s d) :=
  congrArg₂ (· + ·) (timesA_apply 0 (by decide) slices_S8x512x2048_S7x512x2048_0_0_0 enegA (blocksA k) n r d)
    (timesA_apply 1 (by decide) slices_S8x512x2048_S7x512x2048_1_0_0 fwdA (blocksA k) n r d)

/-! ### Over the reals -/

open Wave

theorem stack_ang (x : FVec Ideal S512x512 .f32) (y : ℝ) (q : Fin 512) (h : ∀ f : Fin 512, x (ix2 f q) = ((Dft.ang f * y : ℝ) : EReal)) (r : Fin 1024) :
    stack x (ix2 r q) = ((wave r y : ℝ) : EReal) := by
  rw [stack_apply]
  unfold wave
  split
  · rw [h]; rfl
  · rw [h]; exact (EReal.coe_neg _).symm

theorem fwd_real (r : Fin 1024) (q : Fin 512) : fwdA (ix2 r q) = ((wave r (q : ℝ) : ℝ) : EReal) :=
  (fwdA_apply r q).trans (stack_ang _ _ q (fun f => angA_apply f q) r)

theorem eneg_real (r : Fin 1024) (q : Fin 512) : enegA (ix2 r q) = ((if q.val = 0 then 0 else wave r ((q : ℝ) - 512) : ℝ) : EReal) := by
  rw [enegA_apply, stack_ang _ _ q (fun f => angN_apply f q) r]
  split <;> rfl

theorem inv_real (q : Fin 512) (r : Fin 1024) : invA (ix2 q r) = ((wave r (q : ℝ) * (1 / 512) : ℝ) : EReal) := by
  rw [invA_apply, ← stack_apply angA r q, stack_ang _ _ q (fun f => angA_apply f q) r, EReal.coe_mul]

theorem blocks_real (k : FVec Ideal S2048x4096 .f32) (K : Fin 2048 → Fin 4096 → ℝ) (hk : ∀ a b, k (ix2 a b) = ((K a b : ℝ) : EReal))
    (n : Fin 8) (s : Fin 512) (d : Fin 2048) : blocksA k (ix3 n s d) = ((lags K d ⟨n.val * 512 + s.val, by omega⟩ : ℝ) : EReal) := by
  rw [blocksA_apply, lagsA_apply]
  unfold lags
  split
  · rfl
  · split
    · exact hk _ _
    · exact hk _ _

theorem spec_real (k : FVec Ideal S2048x4096 .f32) (K : Fin 2048 → Fin 4096 → ℝ) (hk : ∀ a b, k (ix2 a b) = ((K a b : ℝ) : EReal))
    (n : Fin 7) (r : Fin 1024) (d : Fin 2048) : specA k (ix3 n r d) = ((gspec (taps K n d) r : ℝ) : EReal) := by
  have split : gspec (taps K n d) r = (∑ s : Fin 512, (if s.val = 0 then 0 else wave r ((s : ℝ) - 512)) * lags K d ⟨(0 + n.val) * 512 + s.val, by omega⟩)
      + ∑ s : Fin 512, wave r (s : ℝ) * lags K d ⟨(1 + n.val) * 512 + s.val, by omega⟩ := by
    refine (Fin.sum_univ_add (a := 512) (b := 512) (fun u : Fin 1024 => (if u.val = 0 then 0 else wave r (Dft.lag u)) * taps K n d u)).trans ?_
    refine congrArg₂ (· + ·) (Finset.sum_congr rfl fun s _ => congrArg₂ (· * ·) rfl (congrArg (lags K d) (Fin.ext ?_))) (Finset.sum_congr rfl fun s _ => ?_)
    · exact (congrArg (fun a => a * 512 + s.val) (Nat.zero_add n.val)).symm
    have e : (Fin.natAdd 512 s : Fin 1024).val = 512 + s.val := rfl
    have l : Dft.lag (Fin.natAdd 512 s : Fin 1024) = (s : ℝ) := by
      unfold Dft.lag
      rw [show ((Fin.natAdd 512 s : Fin 1024) : ℕ) = 512 + s.val from rfl]
      push_cast
      ring
    rw [if_neg (by rw [e]; omega), l]
    congr 1
    unfold taps
    congr 2
    rw [e]; ring
  rw [specA_apply, split, EReal.coe_add, Spec.coe_sum, Spec.coe_sum]
  refine congrArg₂ (· + ·) (Finset.sum_congr rfl fun s _ => ?_) (Finset.sum_congr rfl fun s _ => ?_)
  · rw [eneg_real, blocks_real k K hk, EReal.coe_mul]
  · rw [fwd_real, blocks_real k K hk, EReal.coe_mul]

end Cert.Proof.KerHost

end
-- ==== Proof.Reals.lean ====
module

public import proofs.«01_k».proof.Proof.Spec
public import Idealize.ShloMosaic.Lib.Pointwise

@[expose] public section

noncomputable section

/-! The seven argument arrays as reals. -/

namespace Cert.Proof.Spec

open Idealize.ShloMosaic

/-- The argument arrays hold the reals of `A`. -/
structure Of (A : Args) (a0 : FVec Ideal ⟨3, ![8, 2048, 2048]⟩ .f32) (a1 : FVec Ideal ⟨3, ![1, 2048, 6144]⟩ .f32) (a2 : FVec Ideal ⟨2, ![1, 6144]⟩ .f32)
    (a3 : FVec Ideal ⟨3, ![1, 3, 6144]⟩ .f32) (a4 : FVec Ideal ⟨2, ![1, 6144]⟩ .f32) (a5 : FVec Ideal ⟨2, ![2048, 4096]⟩ .f32)
    (a6 : FVec Ideal ⟨2, ![1, 2048]⟩ .f32) : Prop where
  h0 : ∀ i t k, a0 (ix3 i t k) = ((A.h i t k : ℝ) : EReal)
  h1 : ∀ k c, a1 (ix3 0 k c) = ((A.w k c : ℝ) : EReal)
  h2 : ∀ c, a2 (ix2 0 c) = ((A.b c : ℝ) : EReal)
  h3 : ∀ u c, a3 (ix3 0 u c) = ((A.ws u c : ℝ) : EReal)
  h4 : ∀ c, a4 (ix2 0 c) = ((A.bs c : ℝ) : EReal)
  h5 : ∀ n c, a5 (ix2 n c) = ((A.k n c : ℝ) : EReal)
  h6 : ∀ d, a6 (ix2 0 d) = ((A.skip d : ℝ) : EReal)

/-- Arrays of finite entries hold some reals. -/
theorem exists_of (a0 : FVec Ideal ⟨3, ![8, 2048, 2048]⟩ .f32) (a1 : FVec Ideal ⟨3, ![1, 2048, 6144]⟩ .f32) (a2 : FVec Ideal ⟨2, ![1, 6144]⟩ .f32)
    (a3 : FVec Ideal ⟨3, ![1, 3, 6144]⟩ .f32) (a4 : FVec Ideal ⟨2, ![1, 6144]⟩ .f32) (a5 : FVec Ideal ⟨2, ![2048, 4096]⟩ .f32)
    (a6 : FVec Ideal ⟨2, ![1, 2048]⟩ .f32)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal))
    (h6 : ∀ i, ∃ r : ℝ, a6 i = (r : EReal)) : ∃ A, Of A a0 a1 a2 a3 a4 a5 a6 := by
  choose f0 e0 using h0
  choose f1 e1 using h1
  choose f2 e2 using h2
  choose f3 e3 using h3
  choose f4 e4 using h4
  choose f5 e5 using h5
  choose f6 e6 using h6
  exact ⟨⟨fun i t k => f0 (ix3 i t k), fun k c => f1 (ix3 0 k c), fun c => f2 (ix2 0 c), fun u c => f3 (ix3 0 u c), fun c => f4 (ix2 0 c),
    fun n c => f5 (ix2 n c), fun d => f6 (ix2 0 d)⟩, ⟨fun _ _ _ => e0 _, fun _ _ => e1 _, fun _ => e2 _, fun _ _ => e3 _, fun _ => e4 _, fun _ _ => e5 _, fun _ => e6 _⟩⟩

end Cert.Proof.Spec

end
-- ==== Proof.KerValue.lean ====
module

public import proofs.«01_k».proof.Proof.KerIdx
public import proofs.«01_k».proof.Proof.KerTable
public import proofs.«01_k».proof.Proof.Reals

@[expose] public section

set_option maxRecDepth 16384

noncomputable section

/-! The kernel's result array over the reals: every step's operand blocks hold the arguments' reals, so every step
    writes the specification's block, and the steps' blocks cover the array. -/

namespace Cert.Proof.KerValue

open Cert.KernelIdeal Cert.KernelIdeal.Gen Idealize.ShloMosaic Idealize.ShloMosaic.TcCoe Cert.Proof.Block
open Idealize.ShloMosaic.Pipeline (Dat)

variable (m : (ℓ : Loc nD τ sig) → Buf (Elt Ideal) ℓ) (c : Dev nD) (A : Spec.Args)

/-- Device `c`'s arguments hold the reals of `A`. -/
abbrev OfArgs : Prop := Spec.Of A (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

section reads

theorem w_read (a : FVec Ideal S1x2048x6144 .f32) (k : Fin 2048) (d : Fin 6144) :
    (truncf .bf16 (shapeCast S2048x6144 a shapeCasts_S1x2048x6144_S2048x6144 : FVec Ideal S2048x6144 .f32) bitsLt_bf16_f32 : FVec Ideal S2048x6144 .bf16) (ix2 k d) = a (ix3 0 k d) := by
  pointwise
theorem row_read (a : FVec Ideal S1x6144 .f32) (d : Fin 6144) :
    (shapeCast S1x6144 (shapeCast S6144 a shapeCasts_S1x6144_S6144 : FVec Ideal S6144 .f32) shapeCasts_S6144_S1x6144 : FVec Ideal S1x6144 .f32) (ix2 0 d) = a (ix2 0 d) := by
  pointwise
theorem ws_read (a : FVec Ideal S1x3x6144 .f32) (u : Fin 3) (d : Fin 6144) :
    (shapeCast S3x6144 a shapeCasts_S1x3x6144_S3x6144 : FVec Ideal S3x6144 .f32) (ix2 u d) = a (ix3 0 u d) := by
  pointwise
theorem skip_read (a : FVec Ideal S1x2048 .f32) (d : Fin 2048) :
    (shapeCast S1x2048 (shapeCast S2048 a shapeCasts_S1x2048_S2048 : FVec Ideal S2048 .f32) shapeCasts_S2048_S1x2048 : FVec Ideal S1x2048 .f32) (ix2 0 d) = a (ix2 0 d) := by
  pointwise

end reads

/-- The specification's result array. -/
def G (A : Spec.Args) (i : S8x2048x2048.Idx) : EReal := ((Spec.out A (i 0) (i 1) (i 2) : ℝ) : EReal)

/-- Where step `t`'s result block lies in the result array. -/
theorem emb17 (t : Fin cfg0.N) (r : Fin 2048) (d : Fin 256) :
    (show S8x2048x2048.Idx from (win0_17.blk t).view.emb (show S1x2048x256.Idx from ix3 0 r d)) = ix3 (bt t) r (dd (jt t) d) := by
  blk_ext [idx t, dd, bt, jt]

variable (H : OfArgs m c A)
include H

theorem V_hn (i : Fin 8) (t k : Fin 2048) : (show Vec Ideal S8x2048x2048 .bf16 from V m c main_v62) (ix3 i t k) = ((A.h i t k : ℝ) : EReal) :=
  (congrFun (KerHost.hn_eq m c) _).trans (H.h0 i t k)
theorem V_w (k : Fin 2048) (d : Fin 6144) : (show Vec Ideal S2048x6144 .bf16 from V m c main_v64) (ix2 k d) = ((A.w k d : ℝ) : EReal) :=
  (congrFun (KerHost.w_eq m c) _).trans ((w_read _ k d).trans (H.h1 k d))
theorem V_b (d : Fin 6144) : (show Vec Ideal S1x6144 .f32 from V m c main_v66) (ix2 0 d) = ((A.b d : ℝ) : EReal) :=
  (congrFun (KerHost.b_eq m c) _).trans ((row_read _ d).trans (H.h2 d))
theorem V_ws (u : Fin 3) (d : Fin 6144) : (show Vec Ideal S3x6144 .f32 from V m c main_v67) (ix2 u d) = ((A.ws u d : ℝ) : EReal) :=
  (congrFun (KerHost.ws_eq m c) _).trans ((ws_read _ u d).trans (H.h3 u d))
theorem V_bs (d : Fin 6144) : (show Vec Ideal S1x6144 .f32 from V m c main_v69) (ix2 0 d) = ((A.bs d : ℝ) : EReal) :=
  (congrFun (KerHost.bs_eq m c) _).trans ((row_read _ d).trans (H.h4 d))
theorem V_skip (d : Fin 2048) : (show Vec Ideal S1x2048 .f32 from V m c main_v71) (ix2 0 d) = ((A.skip d : ℝ) : EReal) :=
  (congrFun (KerHost.skip_eq m c) _).trans ((skip_read _ d).trans (H.h6 d))
theorem V_spec (n : Fin 7) (r : Fin 1024) (d : Fin 2048) : (show Vec Ideal S7x1024x2048 .f32 from V m c main_v61) (ix3 n r d) = ((Wave.gspec (Wave.taps A.k n d) r : ℝ) : EReal) :=
  (congrFun (KerHost.spec_eq m c) _).trans (KerHost.spec_real _ A.k H.h5 n r d)

/-- Every step's operand blocks hold the arguments' reals. -/
theorem holds (t : Fin cfg0.N) : Holds A (bt t) (jt t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) (iblk m c 15 t) (iblk m c 16 t) where
  h0 r k := (r0 m c t r k).trans (V_hn m c A H _ _ _)
  h1 k d := (r1 m c t k d).trans (V_w m c A H _ _)
  h2 k d := (r2 m c t k d).trans (V_w m c A H _ _)
  h3 k d := (r3 m c t k d).trans (V_w m c A H _ _)
  h4 d := (r4 m c t d).trans (V_b m c A H _)
  h5 d := (r5 m c t d).trans (V_b m c A H _)
  h6 d := (r6 m c t d).trans (V_b m c A H _)
  h7 u d := (r7 m c t u d).trans (V_ws m c A H _ _)
  h8 u d := (r8 m c t u d).trans (V_ws m c A H _ _)
  h9 u d := (r9 m c t u d).trans (V_ws m c A H _ _)
  h10 d := (r10 m c t d).trans (V_bs m c A H _)
  h11 d := (r11 m c t d).trans (V_bs m c A H _)
  h12 d := (r12 m c t d).trans (V_bs m c A H _)
  h13 n r d := (r13 m c t n r d).trans (V_spec m c A H _ _ _)
  h14 d := (r14 m c t d).trans (V_skip m c A H _)
  h15 r q := (r15 m c t r q).trans ((congrFun (KerHost.fwd_eq m c) _).trans (KerHost.fwd_real r q))
  h16 q r := (r16 m c t q r).trans ((congrFun (KerHost.inv_eq m c) _).trans (KerHost.inv_real q r))

/-- After every step has run, the kernel's result array is the specification's. -/
theorem final : (dats m 0 c).arrAt 17 cfg0.N = G A := by
  refine (dats m 0 c).arrAt_eq_of_covers 17 (G A) (by decide +kernel) (fun t hf y => ?_)
  blk_simp
  rw [after0_17]
  unfold outsAt0
  refine (Body.out_apply _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
  revert y
  suffices h : ∀ y : S1x2048x256.Idx, _ by exact h
  intro y
  obtain ⟨r, d, rfl⟩ : ∃ (r : Fin 2048) (d : Fin 256), y = ix3 0 r d := ⟨y 1, y 2, by
    funext a
    fin_cases a
    · exact Fin.ext (by have : (y 0).val < 1 := (y 0).isLt; exact (by omega : (y 0).val = 0))
    · rfl
    · rfl⟩
  refine (out_real A (bt t) (jt t) _ _ _ _ _ _ _ _ _ _ _ _ _ _ _ _ _ (holds m c A H t) r d).trans ?_
  refine Eq.trans ?_ (congrArg (G A) (emb17 t r d)).symm
  rfl

end Cert.Proof.KerValue

end
-- ==== Proof.RefValue.lean ====
module

public import proofs.«01_k».proof.Proof.Gen.ReferenceIdeal.Run
public import proofs.«01_k».proof.Proof.Reals
public import Idealize.ShloMosaic.Lib.Pointwise

@[expose] public section

set_option maxRecDepth 16384

noncomputable section

/-! The reference, operation by operation at an index, and over the reals: the specification's result. -/

namespace Cert.Proof.RefValue

open Cert.ReferenceIdeal Cert.ReferenceIdeal.Gen Idealize.ShloMosaic Idealize.ShloMosaic.StableHlo

/-- The projection of every token. -/
def zA (h : FVec Ideal S8x2048x2048 .f32) (w : FVec Ideal S1x2048x6144 .f32) (b : FVec Ideal S1x6144 .f32) : FVec Ideal S8x2048x6144 .f32 :=
  addf (Host.dotGeneral dot_S8x2048x2048_S2048x6144_S8x2048x6144_2_0_01_1_n_n none h (shapeCast _ w shapeCasts_S1x2048x6144_S2048x6144))
    (broadcastInDim S8x2048x6144 ![0, 1, 2] bcast_S1x1x6144_S8x2048x6144_0_1_2 (broadcastInDim S1x1x6144 ![2] bcast_S6144_S1x1x6144_2 (shapeCast _ b shapeCasts_S1x6144_S6144)))

theorem zA_apply (h : FVec Ideal S8x2048x2048 .f32) (w : FVec Ideal S1x2048x6144 .f32) (b : FVec Ideal S1x6144 .f32)
    (i : Fin 8) (t : Fin 2048) (c : Fin 6144) :
    zA h w b (ix3 i t c) = (∑ k : Fin 2048, h (ix3 i t k) * w (ix3 0 k c)) + b (ix2 0 c) := by
  pointwise [zA]

/-- One row of zeros put before and one after each sequence. -/
def padA (z : FVec Ideal S8x2048x6144 .f32) : FVec Ideal S8x2050x6144 .f32 :=
  pad S8x2050x6144 ![0, 1, 0] ![0, 1, 0] ![0, 0, 0] z (sitofp .f32 (constantI S_ 32 0#32)) pads_S8x2048x6144_S8x2050x6144_000_110_000 h_S_

theorem padA_apply (z : FVec Ideal S8x2048x6144 .f32) (i : Fin 8) (t : Fin 2050) (c : Fin 6144) :
    padA z (ix3 i t c) = if h : 1 ≤ t.val ∧ t.val - 1 < 2048 then z (ix3 i ⟨t.val - 1, h.2⟩ c) else 0 := by
  pointwise [padA]
  have : (FloatOps.sitofp FTy.f32 (0#32 : BitVec 32) : Ideal .f32) = 0 := by
    show (((0#32 : BitVec 32).toInt : ℝ) : EReal) = 0
    simp
  rw [this]

def row (o : ℕ) (ws : FVec Ideal S1x3x6144 .f32) (h : S3x6144.Slices ![o, 0] S1x6144) : FVec Ideal S8x2048x6144 .f32 :=
  broadcastInDim S8x2048x6144 ![0, 1, 2] bcast_S1x1x6144_S8x2048x6144_0_1_2 (broadcastInDim S1x1x6144 ![2] bcast_S6144_S1x1x6144_2
    (shapeCast _ (extractStridedSlice S1x6144 ![o, 0] (shapeCast _ ws shapeCasts_S1x3x6144_S3x6144) h) shapeCasts_S1x6144_S6144))

/-- The three-tap convolution of the padded projections. -/
def scA (zp : FVec Ideal S8x2050x6144 .f32) (ws : FVec Ideal S1x3x6144 .f32) (bs : FVec Ideal S1x6144 .f32) : FVec Ideal S8x2048x6144 .f32 :=
  addf (addf (addf
    (mulf (extractStridedSlice S8x2048x6144 ![0, 0, 0] zp slices_S8x2050x6144_S8x2048x6144_0_0_0) (row 0 ws slices_S3x6144_S1x6144_0_0))
    (mulf (extractStridedSlice S8x2048x6144 ![0, 1, 0] zp slices_S8x2050x6144_S8x2048x6144_0_1_0) (row 1 ws slices_S3x6144_S1x6144_1_0)))
    (mulf (extractStridedSlice S8x2048x6144 ![0, 2, 0] zp slices_S8x2050x6144_S8x2048x6144_0_2_0) (row 2 ws slices_S3x6144_S1x6144_2_0)))
    (broadcastInDim S8x2048x6144 ![0, 1, 2] bcast_S1x1x6144_S8x2048x6144_0_1_2 (broadcastInDim S1x1x6144 ![2] bcast_S6144_S1x1x6144_2 (shapeCast _ bs shapeCasts_S1x6144_S6144)))

theorem scA_apply (zp : FVec Ideal S8x2050x6144 .f32) (ws : FVec Ideal S1x3x6144 .f32) (bs : FVec Ideal S1x6144 .f32)
    (i : Fin 8) (t : Fin 2048) (c : Fin 6144) :
    scA zp ws bs (ix3 i t c) = zp (ix3 i ⟨t.val, by omega⟩ c) * ws (ix3 0 0 c) + zp (ix3 i ⟨t.val + 1, by omega⟩ c) * ws (ix3 0 1 c)
      + zp (ix3 i ⟨t.val + 2, by omega⟩ c) * ws (ix3 0 2 c) + bs (ix2 0 c) := by
  pointwise [scA, row]
  simp only [Nat.add_comm]

/-- The lag of each pair of positions. -/
def lagA : IVec S2048x2048 32 := subi (iotaInDim S2048x2048 32 0) (iotaInDim S2048x2048 32 1)
def zeroA : IVec S2048x2048 32 := broadcastInDim S2048x2048 ![] bcast_S_S2048x2048 (constantI S_ 32 0#32)
/-- A row of the filter picked for each pair by an index that is not negative (the printed negative case never taken). -/
def pick (o : ℕ) (h : S2048x4096.Slices ![0, o] S2048x2048) (k : FVec Ideal S2048x4096 .f32) (ix : IVec S2048x2048 32) : FVec Ideal S2048x2048x2048 .f32 :=
  Host.gather gather_S2048x2048_S2048x2048x1_S2048x2048x2048_2_0_n_n_0_2_12048 (extractStridedSlice S2048x2048 ![0, o] k h)
    (broadcastInDim S2048x2048x1 ![0, 1] bcast_S2048x2048_S2048x2048x1_0_1
      (select (cmpi .slt ix zeroA) (addi ix (broadcastInDim S2048x2048 ![] bcast_S_S2048x2048 (constantI S_ 32 2048#32))) ix))
def toepA (k : FVec Ideal S2048x4096 .f32) : FVec Ideal S2048x2048x2048 .f32 :=
  select (broadcastInDim S2048x2048x2048 ![0, 1, 2] bcast_S2048x2048x1_S2048x2048x2048_0_1_2 (broadcastInDim S2048x2048x1 ![0, 1] bcast_S2048x2048_S2048x2048x1_0_1 (cmpi .sge lagA zeroA)))
    (pick 0 slices_S2048x4096_S2048x2048_0_0 k (maxsi lagA zeroA))
    (pick 2048 slices_S2048x4096_S2048x2048_0_2048 k (maxsi (negi lagA) zeroA))

/-- The gather of filter rows read at a pair of positions and a channel. -/
theorem gather_apply (x : FVec Ideal S2048x2048 .f32) (ix : IVec S2048x2048x1 32) (t s d : Fin 2048) :
    Host.gather gather_S2048x2048_S2048x2048x1_S2048x2048x2048_2_0_n_n_0_2_12048 x ix (ix3 t s d)
      = x (ix2 ⟨min (ix (ix3 t s 0)).toInt.toNat 2047, by omega⟩ d) := by
  unfold Host.gather
  congr 1
  funext a
  refine Fin.ext ?_
  show (gather_S2048x2048_S2048x2048x1_S2048x2048x2048_2_0_n_n_0_2_12048).start (ix3 t s d) ix a
      + (gather_S2048x2048_S2048x2048x1_S2048x2048x2048_2_0_n_n_0_2_12048).batchCoord (ix3 t s d) a
      + (gather_S2048x2048_S2048x2048x1_S2048x2048x2048_2_0_n_n_0_2_12048).offCoord (ix3 t s d) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S2048x2048_S2048x2048x1_S2048x2048x2048_2_0_n_n_0_2_12048).startIndexMap from List.mem_singleton.mpr rfl)]
    have hsi : (gather_S2048x2048_S2048x2048x1_S2048x2048x2048_2_0_n_n_0_2_12048).siIdx (ix3 t s d)
        ⟨List.idxOf (0 : Fin 2) (gather_S2048x2048_S2048x2048x1_S2048x2048x2048_2_0_n_n_0_2_12048).startIndexMap,
        List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    have h1 : (gather_S2048x2048_S2048x2048x1_S2048x2048x2048_2_0_n_n_0_2_12048).start (ix3 t s d) ix 1 = 0 := by
      unfold GatherDims.start
      rw [dif_neg (by decide)]
    rw [h1]
    simp only [Nat.zero_add]
    unfold GatherDims.offCoord
    rw [dif_pos (by decide)]
    rfl

theorem zeroA_apply (t s : Fin 2048) : zeroA (ix2 t s) = 0#32 := rfl

theorem lagA_apply (t s : Fin 2048) : lagA (ix2 t s) = BitVec.ofNat 32 t.val - BitVec.ofNat 32 s.val := rfl

/-- The picked row when the index is the natural number `n`. -/
theorem pick_apply (o : ℕ) (h : S2048x4096.Slices ![0, o] S2048x2048) (ho : o + 2048 ≤ 4096) (k : FVec Ideal S2048x4096 .f32) (ix : IVec S2048x2048 32)
    (t s d : Fin 2048) (n : Fin 2048) (hn : ix (ix2 t s) = BitVec.ofNat 32 n.val) :
    pick o h k ix (ix3 t s d) = k (ix2 n ⟨o + d.val, by omega⟩) := by
  unfold pick
  rw [gather_apply]
  have hsel : broadcastInDim S2048x2048x1 ![0, 1] bcast_S2048x2048_S2048x2048x1_0_1
      (select (cmpi .slt ix zeroA) (addi ix (broadcastInDim S2048x2048 ![] bcast_S_S2048x2048 (constantI S_ 32 2048#32))) ix) (ix3 t s 0)
      = BitVec.ofNat 32 n.val := by
    have : broadcastInDim S2048x2048x1 ![0, 1] bcast_S2048x2048_S2048x2048x1_0_1
      (select (cmpi .slt ix zeroA) (addi ix (broadcastInDim S2048x2048 ![] bcast_S_S2048x2048 (constantI S_ 32 2048#32))) ix) (ix3 t s 0)
      = Scalar.select (BitVec.ofBool ((ix (ix2 t s)).slt 0#32)) (ix (ix2 t s) + 2048#32) (ix (ix2 t s)) := by
      pointwise
      simp only [Scalar.select, IntOp.cmpi, IntOp.addi, zeroA_apply]
      by_cases hc : (ix (ix2 t s)).slt 0#32 = true <;> simp [hc]
    rw [this, hn]
    have h0 : (BitVec.ofNat 32 n.val).slt 0#32 = false := by
      have := n.isLt
      rw [BitVec.slt_eq_decide, BitVec.toInt_ofNat', BitVec.toInt_ofNat']
      simp [Int.bmod]
      omega
    rw [h0]; rfl
  have hi : (BitVec.ofNat 32 n.val).toInt.toNat = n.val := by
    have := n.isLt
    rw [BitVec.toInt_ofNat', Int.bmod_def]
    omega
  have hm : ∀ (b : BitVec 32) (hb : min b.toInt.toNat 2047 < 2048), b = BitVec.ofNat 32 n.val →
      (⟨min b.toInt.toNat 2047, hb⟩ : Fin 2048) = n := by
    rintro b hb rfl
    exact Fin.ext (by show min (BitVec.ofNat 32 n.val).toInt.toNat 2047 = n.val; rw [hi]; omega)
  rw [hm _ _ hsel]
  pointwise

theorem toepA_apply (k : FVec Ideal S2048x4096 .f32) (t s d : Fin 2048) :
    toepA k (ix3 t s d) = if s.val ≤ t.val then k (ix2 ⟨t.val - s.val, by omega⟩ ⟨d.val, by omega⟩)
      else k (ix2 ⟨s.val - t.val, by omega⟩ ⟨2048 + d.val, by omega⟩) := by
  have ht := t.isLt
  have hs := s.isLt
  have hl : toepA k (ix3 t s d) = Scalar.select (BitVec.ofBool ((0#32).sle (lagA (ix2 t s))))
      (pick 0 slices_S2048x4096_S2048x2048_0_0 k (maxsi lagA zeroA) (ix3 t s d))
      (pick 2048 slices_S2048x4096_S2048x2048_0_2048 k (maxsi (negi lagA) zeroA) (ix3 t s d)) := by
    rfl
  have hi : (lagA (ix2 t s)).toInt = (t.val : ℤ) - s.val := by
    rw [lagA_apply, BitVec.toInt_sub, BitVec.toInt_ofNat', BitVec.toInt_ofNat']
    simp only [Int.bmod_def]
    omega
  rw [hl]
  by_cases hle : s.val ≤ t.val
  · rw [if_pos hle]
    have hb : (0#32).sle (lagA (ix2 t s)) = true := by
      rw [BitVec.sle_eq_decide, hi]; simp; omega
    rw [hb]
    refine (pick_apply 0 slices_S2048x4096_S2048x2048_0_0 (by omega) k _ t s d ⟨t.val - s.val, by omega⟩ ?_).trans ?_
    · show IntOp.maxsi (lagA (ix2 t s)) 0#32 = _
      unfold IntOp.maxsi
      have : (lagA (ix2 t s)) = BitVec.ofNat 32 (t.val - s.val) := by
        apply BitVec.eq_of_toInt_eq
        rw [hi, BitVec.toInt_ofNat', Int.bmod_def]; omega
      rw [this]
      split
      · rfl
      · next h =>
        rw [BitVec.slt_eq_decide, BitVec.toInt_ofNat', BitVec.toInt_ofNat'] at h
        simp only [Int.bmod_def, decide_eq_true_eq] at h
        have e : t.val - s.val = 0 := by omega
        show _ = BitVec.ofNat 32 (t.val - s.val)
        rw [e]
    · congr 2; exact Fin.ext (Nat.zero_add _)
  · rw [if_neg hle]
    have hb : (0#32).sle (lagA (ix2 t s)) = false := by
      rw [BitVec.sle_eq_decide, hi]; simp; omega
    rw [hb]
    refine pick_apply 2048 slices_S2048x4096_S2048x2048_0_2048 (by omega) k _ t s d ⟨s.val - t.val, by omega⟩ ?_
    show IntOp.maxsi (-(lagA (ix2 t s))) 0#32 = _
    unfold IntOp.maxsi
    have : -(lagA (ix2 t s)) = BitVec.ofNat 32 (s.val - t.val) := by
      apply BitVec.eq_of_toInt_eq
      rw [BitVec.toInt_neg, hi, BitVec.toInt_ofNat']
      simp only [Int.bmod_def]; omega
    rw [this]
    split
    · rfl
    · next h =>
      rw [BitVec.slt_eq_decide, BitVec.toInt_ofNat', BitVec.toInt_ofNat'] at h
      simp only [Int.bmod_def, decide_eq_true_eq] at h
      omega

def vA (s : FVec Ideal S8x2048x6144 .f32) : FVec Ideal S8x2048x2048 .f32 :=
  mulf (extractStridedSlice S8x2048x2048 ![0, 0, 4096] s slices_S8x2048x6144_S8x2048x2048_0_0_4096)
    (extractStridedSlice S8x2048x2048 ![0, 0, 2048] s slices_S8x2048x6144_S8x2048x2048_0_0_2048)

def outA (s : FVec Ideal S8x2048x6144 .f32) (tp : FVec Ideal S2048x2048x2048 .f32) (sk : FVec Ideal S1x2048 .f32) : FVec Ideal S8x2048x2048 .bf16 :=
  truncf .bf16 (mulf (addf (transpose S8x2048x2048 [1, 2, 0] (Host.dotGeneral dot_S8x2048x2048_S2048x2048x2048_S2048x8x2048_1_1_0_0_2_2 none (vA s) tp) transposes_S2048x8x2048_S8x2048x2048_1_2_0)
    (mulf (vA s) (broadcastInDim S8x2048x2048 ![0, 1, 2] bcast_S1x1x2048_S8x2048x2048_0_1_2 (broadcastInDim S1x1x2048 ![2] bcast_S2048_S1x1x2048_2 (shapeCast _ sk shapeCasts_S1x2048_S2048)))))
    (extractStridedSlice S8x2048x2048 ![0, 0, 0] s slices_S8x2048x6144_S8x2048x2048_0_0_0)) bitsLt_bf16_f32

theorem vA_apply (s : FVec Ideal S8x2048x6144 .f32) (i : Fin 8) (t d : Fin 2048) :
    vA s (ix3 i t d) = s (ix3 i t ⟨4096 + d.val, by omega⟩) * s (ix3 i t ⟨2048 + d.val, by omega⟩) := by
  pointwise [vA]

theorem outA_apply (s : FVec Ideal S8x2048x6144 .f32) (tp : FVec Ideal S2048x2048x2048 .f32) (sk : FVec Ideal S1x2048 .f32)
    (i : Fin 8) (t d : Fin 2048) :
    outA s tp sk (ix3 i t d) = ((∑ j : Fin 2048, vA s (ix3 i j d) * tp (ix3 t j d)) + vA s (ix3 i t d) * sk (ix2 0 d)) * s (ix3 i t ⟨d.val, by omega⟩) := by
  pointwise [outA]

/-! ### Over the reals -/

section
variable (A : Spec.Args) (a0 : FVec Ideal S8x2048x2048 .f32) (a1 : FVec Ideal S1x2048x6144 .f32) (a2 : FVec Ideal S1x6144 .f32)
    (a3 : FVec Ideal S1x3x6144 .f32) (a4 : FVec Ideal S1x6144 .f32) (a5 : FVec Ideal S2048x4096 .f32) (a6 : FVec Ideal S1x2048 .f32)
    (H : Spec.Of A a0 a1 a2 a3 a4 a5 a6)
include H

theorem zA_real (i : Fin 8) (t : Fin 2048) (c : Fin 6144) : zA a0 a1 a2 (ix3 i t c) = ((Spec.z A i t c : ℝ) : EReal) := by
  rw [zA_apply, H.h2]
  unfold Spec.z
  rw [EReal.coe_add, Spec.coe_sum]
  refine congrArg₂ (· + ·) (Finset.sum_congr rfl fun k _ => ?_) rfl
  rw [H.h0, H.h1, EReal.coe_mul]

theorem scA_real (i : Fin 8) (t : Fin 2048) (c : Fin 6144) : scA (padA (zA a0 a1 a2)) a3 a4 (ix3 i t c) = ((Spec.sc A i t c : ℝ) : EReal) := by
  have hz := zA_real A a0 a1 a2 a3 a4 a5 a6 H
  have h0 : padA (zA a0 a1 a2) (ix3 i ⟨t.val, by omega⟩ c) = ((Spec.zprev A i t c : ℝ) : EReal) := by
    rw [padA_apply]
    unfold Spec.zprev
    by_cases h : 1 ≤ t.val
    · rw [dif_pos ⟨h, by show t.val - 1 < 2048; omega⟩, dif_pos h]; exact hz _ _ _
    · rw [dif_neg (fun k => h k.1), dif_neg h]; rfl
  have h1 : padA (zA a0 a1 a2) (ix3 i ⟨t.val + 1, by omega⟩ c) = ((Spec.z A i t c : ℝ) : EReal) := by
    rw [padA_apply, dif_pos ⟨by show 1 ≤ t.val + 1; omega, by show t.val + 1 - 1 < 2048; omega⟩]
    exact hz i t c
  have h2 : padA (zA a0 a1 a2) (ix3 i ⟨t.val + 2, by omega⟩ c) = ((Spec.znext A i t c : ℝ) : EReal) := by
    rw [padA_apply]
    unfold Spec.znext
    by_cases h : t.val + 1 < 2048
    · rw [dif_pos ⟨by show 1 ≤ t.val + 2; omega, by show t.val + 2 - 1 < 2048; omega⟩, dif_pos h]
      exact hz i ⟨t.val + 1, h⟩ c
    · rw [dif_neg (fun k => h (by have : t.val + 2 - 1 < 2048 := k.2; omega)), dif_neg h]; rfl
  rw [scA_apply, h0, h1, h2, H.h3, H.h3, H.h3, H.h4]
  simp only [← EReal.coe_mul, ← EReal.coe_add]
  congr 1
  unfold Spec.sc
  ring

theorem toepA_real (t s d : Fin 2048) : toepA a5 (ix3 t s d) = ((Spec.tap A t s d : ℝ) : EReal) := by
  rw [toepA_apply]
  unfold Spec.tap
  split
  · exact H.h5 _ _
  · exact H.h5 _ _

theorem outA_real (i : Fin 8) (t d : Fin 2048) :
    outA (scA (padA (zA a0 a1 a2)) a3 a4) (toepA a5) a6 (ix3 i t d) = ((Spec.out A i t d : ℝ) : EReal) := by
  have hs := scA_real A a0 a1 a2 a3 a4 a5 a6 H
  have hv : ∀ s, vA (scA (padA (zA a0 a1 a2)) a3 a4) (ix3 i s d) = ((Spec.p A i s d : ℝ) : EReal) := fun s => by
    rw [vA_apply, hs, hs, ← EReal.coe_mul]; rfl
  rw [outA_apply, hs, hv, H.h6]
  simp only [hv, toepA_real A a0 a1 a2 a3 a4 a5 a6 H, ← EReal.coe_mul, ← Spec.coe_sum, ← EReal.coe_add]
  congr 1
  unfold Spec.out Spec.x0
  congr 2
  exact Finset.sum_congr rfl fun s _ => mul_comm _ _

end

set_option maxHeartbeats 4000000 in
theorem res_eq (m : (ℓ : Loc nD τ sig) → Buf (Elt Ideal) ℓ) (c : Dev nD) :
    Value.res_out0 m c = outA (scA (padA (zA (m ((c.tc : Thread nD τ).loc main_arg0)) (m ((c.tc : Thread nD τ).loc main_arg1)) (m ((c.tc : Thread nD τ).loc main_arg2))))
      (m ((c.tc : Thread nD τ).loc main_arg3)) (m ((c.tc : Thread nD τ).loc main_arg4))) (toepA (m ((c.tc : Thread nD τ).loc main_arg5))) (m ((c.tc : Thread nD τ).loc main_arg6)) := by
  unfold Value.res_out0 Value.res_main_v72
  rfl

end Cert.Proof.RefValue

end
-- ==== Proof.Finite.lean ====
module

public import proofs.«01_k».proof.Proof.Gen.Pre_finite
public import proofs.«01_k».proof.Proof.Reals
public import Idealize.ShloMosaic.Lib.ReduceAll

@[expose] public section

set_option maxRecDepth 16384

noncomputable section

/-! What the precondition says: the argument arrays' entries are reals. -/

namespace Cert.Proof.Finite

open Cert.Pre_finite Cert.Pre_finite.Gen Idealize.ShloMosaic Idealize.ShloMosaic.StableHlo

/-- An extended real whose absolute value lies below infinity is a real. -/
theorem real_of_lt (x : EReal) (h : max x (-x) < (⊤ : EReal)) : ∃ r : ℝ, x = (r : EReal) := by
  induction x with
  | bot => exact absurd h (by simp)
  | top => exact absurd h (by simp)
  | coe r => exact ⟨r, rfl⟩

theorem and_one {a b : IVec S_ 1} (h : andi a b = fun _ => 1#1) : a = (fun _ => 1#1) ∧ b = fun _ => 1#1 := by
  have k : ∀ x y : BitVec 1, x &&& y = 1#1 → x = 1#1 ∧ y = 1#1 := by decide
  exact ⟨funext fun i => (k _ _ (congrFun h i)).1, funext fun i => (k _ _ (congrFun h i)).2⟩

theorem all_real {s : Shape} {axes : List (Fin s.rank)} (a : FVec Ideal s .f32) (hb : S_.BroadcastsInDim s (![] : Fin 0 → Fin s.rank)) (hr : s.ReducesTo axes S_)
    (h : Host.reduce IntOp.andi (cmpf .olt (Host.absf a) (broadcastInDim s ![] hb (constant S_ .f32 0x7F800000#32))) (constantI S_ 1 1#1) hr h_S_ = fun _ => 1#1)
    (i : s.Idx) : ∃ r : ℝ, a i = (r : EReal) := by
  have e := Host.reduce_andi_all _ _ hr h_S_ ix0 (congrFun h ix0) i
  refine real_of_lt _ ?_
  pointwise at e
  have l : max (a i : EReal) (-(a i)) < Ideal.ofBits .f32 0x7F800000#32 := by
    by_contra hn
    rw [show decide ((FloatOps.absf (a i) : Ideal .f32) < Ideal.ofBits FTy.f32 0x7F800000#32) = false from decide_eq_false hn] at e
    exact absurd e (by decide)
  rwa [show Ideal.ofBits .f32 0x7F800000#32 = (⊤ : EReal) from by simp [Ideal.ofBits, Ideal.ieee]] at l

theorem of_pre (a0 : FVec Ideal S8x2048x2048 .f32) (a1 : FVec Ideal S1x2048x6144 .f32) (a2 : FVec Ideal S1x6144 .f32)
    (a3 : FVec Ideal S1x3x6144 .f32) (a4 : FVec Ideal S1x6144 .f32) (a5 : FVec Ideal S2048x4096 .f32) (a6 : FVec Ideal S1x2048 .f32)
    (h : fn (F := Ideal) a0 a1 a2 a3 a4 a5 a6 = fun _ => 1#1) : ∃ A, Spec.Of A a0 a1 a2 a3 a4 a5 a6 := by
  unfold fn fn_part1 at h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  exact Spec.exists_of a0 a1 a2 a3 a4 a5 a6 (all_real a0 _ _ h0) (all_real a1 _ _ h1) (all_real a2 _ _ h2) (all_real a3 _ _ h3) (all_real a4 _ _ h4)
    (all_real a5 _ _ h5) (all_real a6 _ _ h6)

end Cert.Proof.Finite

end
-- ==== Proof.FfnBody.lean ====
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

/-! What the feed-forward call's result block and its normed rows hold after each grid step: the first step of a block
    of rows starts them, every step adds its share of the hidden channels, and the last step norms the sum. -/

namespace Cert.Proof.Ffn

open Cert.Kernel2Ideal Cert.Kernel2Ideal.Gen Idealize.ShloMosaic Idealize.ShloMosaic.TcCoe
open Idealize.ShloMosaic.Pipeline (Dat)

variable (m : (ℓ : Loc nD τ sig) → Buf (Elt Ideal) ℓ) (c : Dev nD) (t : Fin cfg0.N)

/-- After the first step of a block of rows. -/
theorem first (h0 : t.val % 11 = 0) (h1 : ¬t.val % 11 = 10) :
    outsAt0 m c t.val t.isLt = (k0_pay3 (k0_pay2 (iblk m c 0 t) (iblk m c 1 t)) (iblk m c 2 t) (iblk m c 3 t) (k0_pay1 (iblk m c 0 t)) (iblk m c 4 t),
      k0_pay2 (iblk m c 0 t) (iblk m c 1 t)) := by
  rw [outsAt0_A m c t h0 h1]
  frame_out

/-- After a step that is neither the first nor the last. -/
theorem middle (h0 : ¬t.val % 11 = 0) (h1 : ¬t.val % 11 = 10) :
    outsAt0 m c t.val t.isLt = (k0_pay3 (outsAt0 m c (t.val - 1) (Nat.lt_of_le_of_lt (Nat.sub_le _ _) t.isLt)).2 (iblk m c 2 t) (iblk m c 3 t)
        (outsAt0 m c (t.val - 1) (Nat.lt_of_le_of_lt (Nat.sub_le _ _) t.isLt)).1 (iblk m c 4 t),
      (outsAt0 m c (t.val - 1) (Nat.lt_of_le_of_lt (Nat.sub_le _ _) t.isLt)).2) := by
  rw [outsAt0_B m c t h0 h1]
  frame_out
  exact congrArg₂ Prod.mk (by rw [read_unread_whole]) rfl

/-- After the last step. -/
theorem last (h0 : ¬t.val % 11 = 0) (h1 : t.val % 11 = 10) :
    outsAt0 m c t.val t.isLt = (k0_pay4 (k0_pay3 (outsAt0 m c (t.val - 1) (Nat.lt_of_le_of_lt (Nat.sub_le _ _) t.isLt)).2 (iblk m c 2 t) (iblk m c 3 t)
        (outsAt0 m c (t.val - 1) (Nat.lt_of_le_of_lt (Nat.sub_le _ _) t.isLt)).1 (iblk m c 4 t)) (iblk m c 5 t),
      (outsAt0 m c (t.val - 1) (Nat.lt_of_le_of_lt (Nat.sub_le _ _) t.isLt)).2) := by
  rw [outsAt0_C m c t h0 h1]
  frame_out
  exact congrArg₂ Prod.mk (by rw [read_unread_whole]) rfl

end Cert.Proof.Ffn

end
-- ==== Proof.FfnSpec.lean ====
module

public import Idealize.ShloMosaic.PureOps.Ideal
public import Mathlib.Algebra.BigOperators.Fin

@[expose] public section

noncomputable section

/-! The feed-forward part with its two norms on one row of activations, over the extended reals. Kernel and reference
    are proved to compute it. -/

namespace Cert.Proof.Ffn

open Idealize.ShloMosaic

/-- The root-mean-square norm of a row, scaled by `g`. -/
def rms (x g : Fin 2048 → EReal) (e : Fin 2048) : EReal :=
  x e * Ideal.rsqrt (Ideal.div (∑ k, x k * x k) (Ideal.ofBits .f32 0x45000000#32) + Ideal.ofBits .f32 0x358637BD#32) * g e

/-- One hidden channel of a normed row: the gate's column, passed through `a * logistic a`, times the other column's product. -/
def hid (n wg wu : Fin 2048 → EReal) : EReal :=
  ((∑ k, n k * wg k) * Ideal.logistic (∑ k, n k * wg k)) * ∑ k, n k * wu k

/-- The row after the feed-forward part, with the residual. -/
def res (x g : Fin 2048 → EReal) (wg wu : Fin 2048 → Fin 5632 → EReal) (wd : Fin 5632 → Fin 2048 → EReal) (e : Fin 2048) : EReal :=
  x e + ∑ f, hid (rms x g) (fun k => wg k f) (fun k => wu k f) * wd f e

/-- The row's result: normed once more. -/
def out (x g : Fin 2048 → EReal) (wg wu : Fin 2048 → Fin 5632 → EReal) (wd : Fin 5632 → Fin 2048 → EReal) (gn : Fin 2048 → EReal) (e : Fin 2048) : EReal :=
  rms (res x g wg wu wd) gn e

/-- Hidden channel `512 b + u`, written by its block and its place there. -/
def hc (b : Fin 11) (u : Fin 512) : Fin 5632 := ⟨512 * b.val + u.val, by omega⟩

/-- A sum over the hidden channels is the sum over the eleven blocks of each block's sum. -/
theorem sum_blocks (f : Fin 5632 → EReal) : ∑ h, f h = ∑ b : Fin 11, ∑ u : Fin 512, f (hc b u) := by
  rw [← Fintype.sum_prod_type' (f := fun b u => f (hc b u))]
  exact (Fintype.sum_equiv (finProdFinEquiv (m := 11) (n := 512)) _ _ (fun p => congrArg f (Fin.ext (by
    show 512 * p.1.val + p.2.val = p.2.val + 512 * p.1.val
    omega)))).symm

end Cert.Proof.Ffn

end
-- ==== Proof.FfnPay.lean ====
module

public import proofs.«01_k».proof.Proof.Gen.Kernel2Ideal.Skeleton
public import proofs.«01_k».proof.Proof.FfnSpec
public import Idealize.ShloMosaic.Lib.Pipeline.ValueKit

@[expose] public section

set_option maxRecDepth 16384

noncomputable section

/-! What each block computation of the feed-forward call holds at an index. -/

namespace Cert.Proof.Ffn

open Cert.Kernel2Ideal Cert.Kernel2Ideal.Gen Idealize.ShloMosaic Idealize.ShloMosaic.TcCoe

/-- The result block starts as the activations. -/
theorem pay1_apply (x : Vec Ideal S512x2048 .f32) (r : Fin 512) (e : Fin 2048) : k0_pay1 x (ix2 r e) = x (ix2 r e) := by
  pointwise [k0_pay1]

/-- The rows that every product of the block reads are the normed activations. -/
theorem pay2_apply (x : Vec Ideal S512x2048 .f32) (g : Vec Ideal S1x2048 .f32) (r : Fin 512) (e : Fin 2048) :
    k0_pay2 x g (ix2 r e) = rms (fun k => x (ix2 r k)) (fun k => g (ix2 0 k)) e := by
  pointwise [k0_pay1, k0_pay2, rms]

/-- A step adds the products of its 512 hidden channels. -/
theorem pay3_apply (xn : Vec Ideal S512x2048 .bf16) (wg wu : Vec Ideal S1x2048x512 .bf16) (acc : Vec Ideal S512x2048 .f32) (wd : Vec Ideal S1x512x2048 .bf16)
    (r : Fin 512) (e : Fin 2048) :
    k0_pay3 xn wg wu acc wd (ix2 r e) = acc (ix2 r e)
      + ∑ u : Fin 512, hid (fun k => xn (ix2 r k)) (fun k => wg (ix3 0 k u)) (fun k => wu (ix3 0 k u)) * wd (ix3 0 u e) := by
  pointwise [k0_pay3, hid]

/-- The last step norms the sum. -/
theorem pay4_apply (x : Vec Ideal S512x2048 .f32) (g : Vec Ideal S1x2048 .f32) (r : Fin 512) (e : Fin 2048) :
    k0_pay4 x g (ix2 r e) = rms (fun k => x (ix2 r k)) (fun k => g (ix2 0 k)) e := by
  pointwise [k0_pay4, rms]

end Cert.Proof.Ffn

end
-- ==== Proof.FfnIdx.lean ====
module

public import proofs.«01_k».proof.Proof.Gen.Kernel2Ideal.Value
public import proofs.«01_k».proof.Proof.FfnSpec
public import Idealize.ShloMosaic.Lib.Pipeline.ValueKit
public import Idealize.ShloMosaic.Lib.Pointwise

@[expose] public section

set_option maxRecDepth 16384

noncomputable section

/-! Where each grid step's operand blocks of the feed-forward call lie in the arguments. -/

namespace Cert.Proof.Ffn

open Cert.Kernel2Ideal Cert.Kernel2Ideal.Gen Idealize.ShloMosaic Idealize.ShloMosaic.TcCoe Idealize.ShloMosaic.StableHlo
open Idealize.ShloMosaic.Pipeline (Dat)

/-- Every window's block index at every step: the block of rows is the slow grid coordinate, the block of hidden channels the fast one. -/
theorem idx : ∀ t : Fin cfg0.N, win0_0.index t = ![t.val / 11, 0] ∧ win0_1.index t = ![0, 0] ∧ win0_2.index t = ![1, 0, t.val % 11]
    ∧ win0_3.index t = ![1, 0, t.val % 11] ∧ win0_4.index t = ![1, t.val % 11, 0] ∧ win0_5.index t = ![0, 0]
    ∧ win0_6.index t = ![t.val / 11, 0] ∧ t.val < 352 :=
  (by decide +kernel : ∀ t : Fin grid0.N, _)

variable (m : (ℓ : Loc nD τ sig) → Buf (Elt Ideal) ℓ) (c : Dev nD) (t : Fin cfg0.N)

theorem lt : t.val < 352 := (idx t).2.2.2.2.2.2.2
/-- The row of the array that is row `r` of the step's block. -/
def rw (r : Fin 512) : Fin 16384 := ⟨512 * (t.val / 11) + r.val, by have := lt t; omega⟩
/-- The step's block of hidden channels. -/
def kt : Fin 11 := ⟨t.val % 11, by omega⟩

section blocks

theorem b0 (r : Fin 512) (e : Fin 2048) : (show Vec Ideal S512x2048 .f32 from iblk m c 0 t) (ix2 r e) = (show Vec Ideal S16384x2048 .f32 from V m c main_v0) (ix2 (rw t r) e) := by
  blk_simp [iblk]
  blk_ext [idx t, rw]
theorem b1 (e : Fin 2048) : (show Vec Ideal S1x2048 .f32 from iblk m c 1 t) (ix2 0 e) = (show Vec Ideal S1x2048 .f32 from V m c main_v3) (ix2 0 e) := by
  blk_simp [iblk]
  blk_ext [idx t]
theorem b2 (k : Fin 2048) (u : Fin 512) : (show Vec Ideal S1x2048x512 .bf16 from iblk m c 2 t) (ix3 0 k u) = (show Vec Ideal S2x2048x5632 .bf16 from V m c main_v4) (ix3 1 k (hc (kt t) u)) := by
  blk_simp [iblk]
  blk_ext [idx t, hc, kt]
theorem b3 (k : Fin 2048) (u : Fin 512) : (show Vec Ideal S1x2048x512 .bf16 from iblk m c 3 t) (ix3 0 k u) = (show Vec Ideal S2x2048x5632 .bf16 from V m c main_v5) (ix3 1 k (hc (kt t) u)) := by
  blk_simp [iblk]
  blk_ext [idx t, hc, kt]
theorem b4 (u : Fin 512) (e : Fin 2048) : (show Vec Ideal S1x512x2048 .bf16 from iblk m c 4 t) (ix3 0 u e) = (show Vec Ideal S2x5632x2048 .bf16 from V m c main_v6) (ix3 1 (hc (kt t) u) e) := by
  blk_simp [iblk]
  blk_ext [idx t, hc, kt]
theorem b5 (e : Fin 2048) : (show Vec Ideal S1x2048 .f32 from iblk m c 5 t) (ix2 0 e) = (show Vec Ideal S1x2048 .f32 from V m c main_v7) (ix2 0 e) := by
  blk_simp [iblk]
  blk_ext [idx t]
/-- Where step `t`'s result block lies in the result array. -/
theorem emb6 (r : Fin 512) (e : Fin 2048) : (show S16384x2048.Idx from (win0_6.blk t).view.emb (show S512x2048.Idx from ix2 r e)) = ix2 (rw t r) e := by
  blk_ext [idx t, rw]

end blocks

section host

theorem V0 : V m c main_v0 = (shapeCast S16384x2048 (m ((c.tc : Thread nD τ).loc main_arg0) : FVec Ideal S8x2048x2048 .f32) shapeCasts_S8x2048x2048_S16384x2048 : FVec Ideal S16384x2048 .f32) := by
  unfold V hostOps0
  simp only [List.flatten_cons, List.cons_append, List.nil_append, List.flatten_nil]
  after_results
  rfl
theorem V3 : V m c main_v3 = (shapeCast S1x2048 (shapeCast S2048 (extractStridedSlice S1x2048 ![1, 0] (m ((c.tc : Thread nD τ).loc main_arg1) : FVec Ideal S2x2048 .f32)
    slices_S2x2048_S1x2048_1_0) shapeCasts_S1x2048_S2048 : FVec Ideal S2048 .f32) shapeCasts_S2048_S1x2048 : FVec Ideal S1x2048 .f32) := by
  unfold V hostOps0
  simp only [List.flatten_cons, List.cons_append, List.nil_append, List.flatten_nil]
  after_results
  rfl
theorem V4 : V m c main_v4 = (truncf .bf16 (m ((c.tc : Thread nD τ).loc main_arg2) : FVec Ideal S2x2048x5632 .f32) bitsLt_bf16_f32 : FVec Ideal S2x2048x5632 .bf16) := by
  unfold V hostOps0
  simp only [List.flatten_cons, List.cons_append, List.nil_append, List.flatten_nil]
  after_results
theorem V5 : V m c main_v5 = (truncf .bf16 (m ((c.tc : Thread nD τ).loc main_arg3) : FVec Ideal S2x2048x5632 .f32) bitsLt_bf16_f32 : FVec Ideal S2x2048x5632 .bf16) := by
  unfold V hostOps0
  simp only [List.flatten_cons, List.cons_append, List.nil_append, List.flatten_nil]
  after_results
theorem V6 : V m c main_v6 = (truncf .bf16 (m ((c.tc : Thread nD τ).loc main_arg4) : FVec Ideal S2x5632x2048 .f32) bitsLt_bf16_f32 : FVec Ideal S2x5632x2048 .bf16) := by
  unfold V hostOps0
  simp only [List.flatten_cons, List.cons_append, List.nil_append, List.flatten_nil]
  after_results
theorem V7 : V m c main_v7 = (shapeCast S1x2048 (m ((c.tc : Thread nD τ).loc main_arg5) : FVec Ideal S2048 .f32) shapeCasts_S2048_S1x2048 : FVec Ideal S1x2048 .f32) := by
  unfold V hostOps0
  simp only [List.flatten_cons, List.cons_append, List.nil_append, List.flatten_nil]
  after_results
  rfl

theorem x_read (a : FVec Ideal S8x2048x2048 .f32) (R : Fin 16384) (e : Fin 2048) :
    (shapeCast S16384x2048 a shapeCasts_S8x2048x2048_S16384x2048 : FVec Ideal S16384x2048 .f32) (ix2 R e) = a (ix3 ⟨R.val / 2048, by omega⟩ ⟨R.val % 2048, by omega⟩ e) := by
  pointwise
theorem g_read (a : FVec Ideal S2x2048 .f32) (e : Fin 2048) :
    (shapeCast S1x2048 (shapeCast S2048 (extractStridedSlice S1x2048 ![1, 0] a slices_S2x2048_S1x2048_1_0) shapeCasts_S1x2048_S2048 : FVec Ideal S2048 .f32)
      shapeCasts_S2048_S1x2048 : FVec Ideal S1x2048 .f32) (ix2 0 e) = a (ix2 1 e) := by
  pointwise
theorem gn_read (a : FVec Ideal S2048 .f32) (e : Fin 2048) :
    (shapeCast S1x2048 a shapeCasts_S2048_S1x2048 : FVec Ideal S1x2048 .f32) (ix2 0 e) = a (ix1 e) := by
  pointwise

end host

end Cert.Proof.Ffn

end
-- ==== Proof.FfnValue.lean ====
module

public import proofs.«01_k».proof.Proof.FfnBody
public import proofs.«01_k».proof.Proof.FfnPay
public import proofs.«01_k».proof.Proof.FfnIdx

@[expose] public section

set_option maxRecDepth 16384

noncomputable section

/-! The feed-forward call's result array: after every step the result block holds the activations and the hidden
    channels summed so far, the last step norms the whole sum, and the blocks cover the array. -/

namespace Cert.Proof.Ffn

open Cert.Kernel2Ideal Cert.Kernel2Ideal.Gen Idealize.ShloMosaic Idealize.ShloMosaic.TcCoe
open Idealize.ShloMosaic.Pipeline (Dat)

variable (m : (ℓ : Loc nD τ sig) → Buf (Elt Ideal) ℓ) (c : Dev nD)

/-- Row `R` of the activations. -/
def X (R : Fin 16384) (k : Fin 2048) : EReal := (m ((c.tc : Thread nD τ).loc main_arg0) : FVec Ideal S8x2048x2048 .f32) (ix3 ⟨R.val / 2048, by omega⟩ ⟨R.val % 2048, by omega⟩ k)
/-- The first norm's scale. -/
def g1 (k : Fin 2048) : EReal := (m ((c.tc : Thread nD τ).loc main_arg1) : FVec Ideal S2x2048 .f32) (ix2 1 k)
def wg (k : Fin 2048) (f : Fin 5632) : EReal := (m ((c.tc : Thread nD τ).loc main_arg2) : FVec Ideal S2x2048x5632 .f32) (ix3 1 k f)
def wu (k : Fin 2048) (f : Fin 5632) : EReal := (m ((c.tc : Thread nD τ).loc main_arg3) : FVec Ideal S2x2048x5632 .f32) (ix3 1 k f)
def wd (f : Fin 5632) (k : Fin 2048) : EReal := (m ((c.tc : Thread nD τ).loc main_arg4) : FVec Ideal S2x5632x2048 .f32) (ix3 1 f k)
/-- The last norm's scale. -/
def g2 (k : Fin 2048) : EReal := (m ((c.tc : Thread nD τ).loc main_arg5) : FVec Ideal S2048 .f32) (ix1 k)

/-- What block `b` of the hidden channels adds to a row. -/
def part (R : Fin 16384) (e : Fin 2048) (b : Fin 11) : EReal :=
  ∑ u : Fin 512, hid (rms (X m c R) (g1 m c)) (fun k => wg m c k (hc b u)) (fun k => wu m c k (hc b u)) * wd m c (hc b u) e
/-- The row after the blocks up to `n`. -/
def acc (R : Fin 16384) (e : Fin 2048) (n : ℕ) : EReal := X m c R e + ∑ b ∈ Finset.range (n + 1), part m c R e ⟨b % 11, Nat.mod_lt _ (by decide)⟩

theorem acc_zero (R : Fin 16384) (e : Fin 2048) (b : Fin 11) (h : b.val = 0) : acc m c R e b.val = X m c R e + part m c R e b := by
  unfold acc
  rw [h, Finset.sum_range_one]
  exact congrArg (fun b => X m c R e + part m c R e b) (Fin.ext h.symm)

theorem acc_succ (R : Fin 16384) (e : Fin 2048) (b : Fin 11) (n : ℕ) (h : b.val = n + 1) : acc m c R e b.val = acc m c R e n + part m c R e b := by
  unfold acc
  rw [h, Finset.sum_range_succ _ (n + 1), ← add_assoc]
  exact congrArg (fun b => _ + part m c R e b) (Fin.ext (by show (n + 1) % 11 = b.val; omega))

/-- After all eleven blocks the row is the feed-forward part's. -/
theorem acc_all (R : Fin 16384) (e : Fin 2048) : acc m c R e 10 = res (X m c R) (g1 m c) (wg m c) (wu m c) (wd m c) e := by
  unfold acc res
  rw [sum_blocks, Finset.sum_range]
  refine congrArg (X m c R e + ·) (Finset.sum_congr rfl (fun b _ => ?_))
  exact congrArg (part m c R e) (Fin.ext (Nat.mod_eq_of_lt b.isLt))

section step

variable (t : Fin cfg0.N)

theorem x_at (r : Fin 512) (e : Fin 2048) : (show Vec Ideal S512x2048 .f32 from iblk m c 0 t) (ix2 r e) = X m c (rw t r) e :=
  (b0 m c t r e).trans ((congrFun (V0 m c) _).trans (x_read _ _ _))
theorem g1_at (e : Fin 2048) : (show Vec Ideal S1x2048 .f32 from iblk m c 1 t) (ix2 0 e) = g1 m c e :=
  (b1 m c t e).trans ((congrFun (V3 m c) _).trans (g_read _ _))
theorem wg_at (k : Fin 2048) (u : Fin 512) : (show Vec Ideal S1x2048x512 .bf16 from iblk m c 2 t) (ix3 0 k u) = wg m c k (hc (kt t) u) :=
  (b2 m c t k u).trans (congrFun (V4 m c) _)
theorem wu_at (k : Fin 2048) (u : Fin 512) : (show Vec Ideal S1x2048x512 .bf16 from iblk m c 3 t) (ix3 0 k u) = wu m c k (hc (kt t) u) :=
  (b3 m c t k u).trans (congrFun (V5 m c) _)
theorem wd_at (u : Fin 512) (e : Fin 2048) : (show Vec Ideal S1x512x2048 .bf16 from iblk m c 4 t) (ix3 0 u e) = wd m c (hc (kt t) u) e :=
  (b4 m c t u e).trans (congrFun (V6 m c) _)
theorem g2_at (e : Fin 2048) : (show Vec Ideal S1x2048 .f32 from iblk m c 5 t) (ix2 0 e) = g2 m c e :=
  (b5 m c t e).trans ((congrFun (V7 m c) _).trans (gn_read _ _))

/-- The normed rows that the first step writes. -/
theorem norm_at (r : Fin 512) (e : Fin 2048) : k0_pay2 (iblk m c 0 t) (iblk m c 1 t) (ix2 r e) = rms (X m c (rw t r)) (g1 m c) e :=
  (pay2_apply _ _ r e).trans (congrArg₂ (fun x g => rms x g e) (funext (x_at m c t r)) (funext (g1_at m c t)))

/-- A step adds its block's part. -/
theorem add_at (xn : Vec Ideal S512x2048 .bf16) (a : Vec Ideal S512x2048 .f32) (r : Fin 512) (hx : ∀ e, xn (ix2 r e) = rms (X m c (rw t r)) (g1 m c) e) (e : Fin 2048) :
    k0_pay3 xn (iblk m c 2 t) (iblk m c 3 t) a (iblk m c 4 t) (ix2 r e) = a (ix2 r e) + part m c (rw t r) e (kt t) := by
  refine (pay3_apply xn _ _ a _ r e).trans (congrArg (a (ix2 r e) + ·) (Finset.sum_congr rfl (fun u _ => ?_)))
  refine congrArg₂ (· * ·) ?_ (wd_at m c t u e)
  rw [funext hx]
  exact congrArg₂ (hid _) (funext (fun k => wg_at m c t k u)) (funext (fun k => wu_at m c t k u))

end step

/-- What the result block and the normed rows hold after step `n`. -/
def Inv (n : ℕ) (hn : n < cfg0.N) : Prop :=
  (¬n % 11 = 10 → ∀ (r : Fin 512) (e : Fin 2048), (outsAt0 m c n hn).1 (ix2 r e) = acc m c (rw ⟨n, hn⟩ r) e (n % 11))
  ∧ ∀ (r : Fin 512) (e : Fin 2048), (outsAt0 m c n hn).2 (ix2 r e) = rms (X m c (rw ⟨n, hn⟩ r)) (g1 m c) e

theorem rw_pred (n : ℕ) (hn : n < cfg0.N) (h : ¬n % 11 = 0) (r : Fin 512) : rw ⟨n - 1, Nat.lt_of_le_of_lt (Nat.sub_le _ _) hn⟩ r = rw ⟨n, hn⟩ r :=
  Fin.ext (by show 512 * ((n - 1) / 11) + r.val = 512 * (n / 11) + r.val; omega)

theorem inv_first (n : ℕ) (hn : n < cfg0.N) (h0 : n % 11 = 0) : Inv m c n hn := by
  have E := first m c ⟨n, hn⟩ h0 (by show ¬n % 11 = 10; omega)
  refine ⟨fun _ r e => ?_, fun r e => (congrFun (congrArg Prod.snd E) _).trans (norm_at m c ⟨n, hn⟩ r e)⟩
  refine (congrFun (congrArg Prod.fst E) _).trans ((add_at m c ⟨n, hn⟩ _ _ r (norm_at m c ⟨n, hn⟩ r) e).trans ?_)
  refine Eq.trans ?_ (acc_zero m c (rw ⟨n, hn⟩ r) e (kt ⟨n, hn⟩) h0).symm
  exact congrArg (· + _) ((pay1_apply _ r e).trans (x_at m c ⟨n, hn⟩ r e))

/-- The sum that a later step forms. -/
theorem sum_at (n : ℕ) (hn : n < cfg0.N) (h0 : ¬n % 11 = 0) (I : Inv m c (n - 1) (Nat.lt_of_le_of_lt (Nat.sub_le _ _) hn)) (r : Fin 512) (e : Fin 2048) :
    k0_pay3 (outsAt0 m c (n - 1) (Nat.lt_of_le_of_lt (Nat.sub_le _ _) hn)).2 (iblk m c 2 ⟨n, hn⟩) (iblk m c 3 ⟨n, hn⟩)
      (outsAt0 m c (n - 1) (Nat.lt_of_le_of_lt (Nat.sub_le _ _) hn)).1 (iblk m c 4 ⟨n, hn⟩) (ix2 r e) = acc m c (rw ⟨n, hn⟩ r) e (n % 11) := by
  refine (add_at m c ⟨n, hn⟩ _ _ r (fun e => (I.2 r e).trans (by rw [rw_pred n hn h0])) e).trans ?_
  refine Eq.trans ?_ (acc_succ m c (rw ⟨n, hn⟩ r) e (kt ⟨n, hn⟩) ((n - 1) % 11) (by show n % 11 = (n - 1) % 11 + 1; omega)).symm
  exact congrArg (· + _) ((I.1 (by omega) r e).trans (by rw [rw_pred n hn h0]))

theorem inv : ∀ (n : ℕ) (hn : n < cfg0.N), Inv m c n hn := by
  intro n
  induction n with
  | zero => exact fun hn => inv_first m c 0 hn rfl
  | succ n ih =>
    intro hn
    by_cases h0 : (n + 1) % 11 = 0
    · exact inv_first m c (n + 1) hn h0
    have I := ih (Nat.lt_of_succ_lt hn)
    by_cases h1 : (n + 1) % 11 = 10
    · have E := last m c ⟨n + 1, hn⟩ h0 h1
      exact ⟨fun h => absurd h1 h, fun r e => (congrFun (congrArg Prod.snd E) _).trans ((I.2 r e).trans (by rw [← rw_pred (n + 1) hn h0]; rfl))⟩
    · have E := middle m c ⟨n + 1, hn⟩ h0 h1
      exact ⟨fun _ r e => (congrFun (congrArg Prod.fst E) _).trans (sum_at m c (n + 1) hn h0 I r e),
        fun r e => (congrFun (congrArg Prod.snd E) _).trans ((I.2 r e).trans (by rw [← rw_pred (n + 1) hn h0]; rfl))⟩

/-- The array of all rows' results. -/
def G (i : S16384x2048.Idx) : EReal := out (X m c (i 0)) (g1 m c) (wg m c) (wu m c) (wd m c) (g2 m c) (i 1)

/-- What the last step of a block of rows writes. -/
theorem out_at (t : Fin cfg0.N) (h1 : t.val % 11 = 10) (r : Fin 512) (e : Fin 2048) :
    (outsAt0 m c t.val t.isLt).1 (ix2 r e) = G m c (ix2 (rw t r) e) := by
  have h0 : ¬t.val % 11 = 0 := by omega
  refine (congrFun (congrArg Prod.fst (last m c t h0 h1)) _).trans ((pay4_apply _ _ r e).trans ?_)
  refine congrArg₂ (fun x g => rms x g e) (funext (fun k => ?_)) (funext (g2_at m c t))
  refine (sum_at m c t.val t.isLt h0 (inv m c _ _) r k).trans ?_
  rw [h1]
  exact acc_all m c (rw t r) k

/-- After every step has run, the feed-forward call's result array holds every row's result. -/
theorem final : (dats m 0 c).arrAt 6 cfg0.N = G m c := by
  refine (dats m 0 c).arrAt_eq_of_covers 6 (G m c) (by decide +kernel) (fun t hf y => ?_)
  have h1 : t.val % 11 = 10 := (flush0_6 t).1 hf
  blk_simp
  rw [after0_6]
  revert y
  suffices h : ∀ y : S512x2048.Idx, _ by exact h
  intro y
  obtain ⟨r, e, rfl⟩ : ∃ (r : Fin 512) (e : Fin 2048), y = ix2 r e := ⟨y 0, y 1, by
    funext a
    fin_cases a <;> rfl⟩
  refine (out_at m c t h1 r e).trans ?_
  refine Eq.trans ?_ (congrArg (G m c) (emb6 t r e)).symm
  rfl

end Cert.Proof.Ffn

end
-- ==== Proof.FfnRef.lean ====
module

public import proofs.«01_k».proof.Proof.Gen.Reference2Ideal.Run
public import proofs.«01_k».proof.Proof.FfnSpec
public import Idealize.ShloMosaic.Lib.Pipeline.ValueKit

@[expose] public section

set_option maxRecDepth 16384

noncomputable section

/-! What the reference of the feed-forward call computes: named array by array, and read at an index. -/

namespace Cert.Proof.FfnRef

open Cert.Reference2Ideal Cert.Reference2Ideal.Gen Idealize.ShloMosaic Idealize.ShloMosaic.TcCoe Cert.Proof.Ffn

/-- The norm of every row. -/
def rmsA (x : FVec Ideal S8x2048x2048 .f32) (g : FVec Ideal S2048 .f32) : FVec Ideal S8x2048x2048 .f32 :=
  mulf (mulf x (broadcastInDim S8x2048x2048 ![0, 1, 2] bcast_S8x2048x1_S8x2048x2048_0_1_2 (Host.rsqrt (addf (Host.divf
    (broadcastInDim S8x2048x1 ![0, 1] bcast_S8x2048_S8x2048x1_0_1 (Host.reduceAdd (mulf x x) (constant S_ .f32 0x00000000#32) reducesTo_S8x2048x2048_S8x2048_d2 h_S_))
    (broadcastInDim S8x2048x1 ![] bcast_S_S8x2048x1 (constant S_ .f32 0x45000000#32))) (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 g))

/-- The scale of the first norm: the second layer's. -/
def gA (a1 : FVec Ideal S2x2048 .f32) : FVec Ideal S2048 .f32 := shapeCast S2048 (extractStridedSlice S1x2048 ![1, 0] a1 slices_S2x2048_S1x2048_1_0) shapeCasts_S1x2048_S2048

/-- The product with a weight of the second layer. -/
def projA (n : FVec Ideal S8x2048x2048 .f32) (w : FVec Ideal S2x2048x5632 .f32) : FVec Ideal S8x2048x5632 .f32 :=
  Host.dotGeneral dot_S8x2048x2048_S2048x5632_S8x2048x5632_2_0_01_1_n_n none n
    (shapeCast S2048x5632 (extractStridedSlice S1x2048x5632 ![1, 0, 0] w slices_S2x2048x5632_S1x2048x5632_1_0_0) shapeCasts_S1x2048x5632_S2048x5632)

/-- The array of ones. -/
def oneA : FVec Ideal S8x2048x5632 .f32 := broadcastInDim S8x2048x5632 ![] bcast_S_S8x2048x5632 (constant S_ .f32 0x3F800000#32)

/-- The hidden channels of two products. -/
def hidA (p q : FVec Ideal S8x2048x5632 .f32) : FVec Ideal S8x2048x5632 .f32 :=
  mulf (mulf p (Host.divf oneA (addf oneA (Host.exp (Host.negf p))))) q

/-- The activations after the feed-forward part. -/
def resA (x : FVec Ideal S8x2048x2048 .f32) (h : FVec Ideal S8x2048x5632 .f32) (w : FVec Ideal S2x5632x2048 .f32) : FVec Ideal S8x2048x2048 .f32 :=
  addf x (Host.dotGeneral dot_S8x2048x5632_S5632x2048_S8x2048x2048_2_0_01_1_n_n none h
    (shapeCast S5632x2048 (extractStridedSlice S1x5632x2048 ![1, 0, 0] w slices_S2x5632x2048_S1x5632x2048_1_0_0) shapeCasts_S1x5632x2048_S5632x2048))

theorem rmsA_apply (x : FVec Ideal S8x2048x2048 .f32) (g : FVec Ideal S2048 .f32) (i : Fin 8) (s e : Fin 2048) :
    rmsA x g (ix3 i s e) = rms (fun k => x (ix3 i s k)) (fun k => g (ix1 k)) e := by
  pointwise [rmsA, rms]
theorem gA_apply (a1 : FVec Ideal S2x2048 .f32) (e : Fin 2048) : gA a1 (ix1 e) = a1 (ix2 1 e) := by
  pointwise [gA]
theorem projA_apply (n : FVec Ideal S8x2048x2048 .f32) (w : FVec Ideal S2x2048x5632 .f32) (i : Fin 8) (s : Fin 2048) (f : Fin 5632) :
    projA n w (ix3 i s f) = ∑ k : Fin 2048, n (ix3 i s k) * w (ix3 1 k f) := by
  pointwise [projA]
theorem hidA_apply (p q : FVec Ideal S8x2048x5632 .f32) (i : Fin 8) (s : Fin 2048) (f : Fin 5632) :
    hidA p q (ix3 i s f) = (p (ix3 i s f) * Ideal.logistic (p (ix3 i s f))) * q (ix3 i s f) := by
  pointwise [hidA, oneA]
  rfl
theorem resA_apply (x : FVec Ideal S8x2048x2048 .f32) (h : FVec Ideal S8x2048x5632 .f32) (w : FVec Ideal S2x5632x2048 .f32) (i : Fin 8) (s e : Fin 2048) :
    resA x h w (ix3 i s e) = x (ix3 i s e) + ∑ f : Fin 5632, h (ix3 i s f) * w (ix3 1 f e) := by
  pointwise [resA]

variable (m : (ℓ : Loc nD τ sig) → Buf (Elt Ideal) ℓ) (c : Dev nD)

/-- The reference's result, by the named arrays. -/
def refA (a0 : FVec Ideal S8x2048x2048 .f32) (a1 : FVec Ideal S2x2048 .f32) (a2 a3 : FVec Ideal S2x2048x5632 .f32) (a4 : FVec Ideal S2x5632x2048 .f32)
    (a5 : FVec Ideal S2048 .f32) : FVec Ideal S16384x2048 .f32 :=
  shapeCast S16384x2048 (rmsA (resA a0 (hidA (projA (rmsA a0 (gA a1)) a2) (projA (rmsA a0 (gA a1)) a3)) a4) a5) shapeCasts_S8x2048x2048_S16384x2048

theorem res_eq : Value.res_out0 m c = refA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Value.res_out0 Value.res_main_v40
  rfl

/-- The array of all rows' results. -/
def G (a0 : FVec Ideal S8x2048x2048 .f32) (a1 : FVec Ideal S2x2048 .f32) (a2 a3 : FVec Ideal S2x2048x5632 .f32) (a4 : FVec Ideal S2x5632x2048 .f32)
    (a5 : FVec Ideal S2048 .f32) (R : Fin 16384) (e : Fin 2048) : EReal :=
  out (fun k => a0 (ix3 ⟨R.val / 2048, by omega⟩ ⟨R.val % 2048, by omega⟩ k)) (fun k => a1 (ix2 1 k)) (fun k f => a2 (ix3 1 k f)) (fun k f => a3 (ix3 1 k f))
    (fun f k => a4 (ix3 1 f k)) (fun k => a5 (ix1 k)) e

theorem cast_apply (x : FVec Ideal S8x2048x2048 .f32) (R : Fin 16384) (e : Fin 2048) :
    (shapeCast S16384x2048 x shapeCasts_S8x2048x2048_S16384x2048 : FVec Ideal S16384x2048 .f32) (ix2 R e) = x (ix3 ⟨R.val / 2048, by omega⟩ ⟨R.val % 2048, by omega⟩ e) := by
  pointwise

theorem refA_apply (a0 : FVec Ideal S8x2048x2048 .f32) (a1 : FVec Ideal S2x2048 .f32) (a2 a3 : FVec Ideal S2x2048x5632 .f32) (a4 : FVec Ideal S2x5632x2048 .f32)
    (a5 : FVec Ideal S2048 .f32) (R : Fin 16384) (e : Fin 2048) : refA a0 a1 a2 a3 a4 a5 (ix2 R e) = G a0 a1 a2 a3 a4 a5 R e := by
  unfold refA G out res hid
  rw [cast_apply]
  simp only [rmsA_apply, resA_apply, hidA_apply, projA_apply, gA_apply]

end Cert.Proof.FfnRef

end
-- ==== Proof.Ffn0Body.lean ====
module

public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

/-! What the first layer's feed-forward call's two result blocks and its normed rows hold after each grid step: the first
    step of a block of rows starts them, every step adds its share of the hidden channels, and the last step writes the
    sum's norm to the second block. -/

namespace Cert.Proof.Ffn0

open Cert.Kernel3Ideal Cert.Kernel3Ideal.Gen Idealize.ShloMosaic Idealize.ShloMosaic.TcCoe
open Idealize.ShloMosaic.Pipeline (Dat)

variable (m : (ℓ : Loc nD τ sig) → Buf (Elt Ideal) ℓ) (c : Dev nD) (t : Fin cfg0.N)

/-- After the first step of a block of rows. -/
theorem first (h0 : t.val % 11 = 0) (h1 : ¬t.val % 11 = 10) :
    (outsAt0 m c t.val t.isLt).1 = k0_pay3 (k0_pay2 (iblk m c 0 t) (iblk m c 1 t)) (iblk m c 2 t) (iblk m c 3 t) (k0_pay1 (iblk m c 0 t)) (iblk m c 4 t)
    ∧ (outsAt0 m c t.val t.isLt).2.2 = k0_pay2 (iblk m c 0 t) (iblk m c 1 t) := by
  rw [outsAt0_A m c t h0 h1]
  constructor
  · frame_out
  · frame_out

/-- After a step that is neither the first nor the last. -/
theorem middle (h0 : ¬t.val % 11 = 0) (h1 : ¬t.val % 11 = 10) :
    (outsAt0 m c t.val t.isLt).1 = k0_pay3 (outsAt0 m c (t.val - 1) (Nat.lt_of_le_of_lt (Nat.sub_le _ _) t.isLt)).2.2 (iblk m c 2 t) (iblk m c 3 t) (outsAt0 m c (t.val - 1) (Nat.lt_of_le_of_lt (Nat.sub_le _ _) t.isLt)).1 (iblk m c 4 t)
    ∧ (outsAt0 m c t.val t.isLt).2.2 = (outsAt0 m c (t.val - 1) (Nat.lt_of_le_of_lt (Nat.sub_le _ _) t.isLt)).2.2 := by
  rw [outsAt0_B m c t h0 h1]
  constructor
  · frame_out
    rw [read_unread_whole]
  · rfl

/-- After the last step. -/
theorem last (h0 : ¬t.val % 11 = 0) (h1 : t.val % 11 = 10) :
    (outsAt0 m c t.val t.isLt).1 = k0_pay3 (outsAt0 m c (t.val - 1) (Nat.lt_of_le_of_lt (Nat.sub_le _ _) t.isLt)).2.2 (iblk m c 2 t) (iblk m c 3 t) (outsAt0 m c (t.val - 1) (Nat.lt_of_le_of_lt (Nat.sub_le _ _) t.isLt)).1 (iblk m c 4 t)
    ∧ (outsAt0 m c t.val t.isLt).2.1 = k0_pay4 (k0_pay3 (outsAt0 m c (t.val - 1) (Nat.lt_of_le_of_lt (Nat.sub_le _ _) t.isLt)).2.2 (iblk m c 2 t) (iblk m c 3 t) (outsAt0 m c (t.val - 1) (Nat.lt_of_le_of_lt (Nat.sub_le _ _) t.isLt)).1 (iblk m c 4 t)) (iblk m c 5 t)
    ∧ (outsAt0 m c t.val t.isLt).2.2 = (outsAt0 m c (t.val - 1) (Nat.lt_of_le_of_lt (Nat.sub_le _ _) t.isLt)).2.2 := by
  rw [outsAt0_C m c t h0 h1]
  refine ⟨?_, ?_, rfl⟩
  · frame_out
    rw [read_unread_whole]
  · frame_out
    rw [read_unread_whole]

end Cert.Proof.Ffn0

end
-- ==== Proof.Ffn0Pay.lean ====
module

public import proofs.«01_k».proof.Proof.Gen.Kernel3Ideal.Skeleton
public import proofs.«01_k».proof.Proof.FfnSpec
public import Idealize.ShloMosaic.Lib.Pipeline.ValueKit

@[expose] public section

set_option maxRecDepth 16384

noncomputable section

/-! What each block computation of the first layer's feed-forward call holds at an index. -/

namespace Cert.Proof.Ffn0

open Cert.Kernel3Ideal Cert.Kernel3Ideal.Gen Cert.Proof.Ffn Idealize.ShloMosaic Idealize.ShloMosaic.TcCoe

/-- The result block starts as the activations. -/
theorem pay1_apply (x : Vec Ideal S512x2048 .f32) (r : Fin 512) (e : Fin 2048) : k0_pay1 x (ix2 r e) = x (ix2 r e) := by
  pointwise [k0_pay1]

/-- The rows that every product of the block reads are the normed activations. -/
theorem pay2_apply (x : Vec Ideal S512x2048 .f32) (g : Vec Ideal S1x2048 .f32) (r : Fin 512) (e : Fin 2048) :
    k0_pay2 x g (ix2 r e) = rms (fun k => x (ix2 r k)) (fun k => g (ix2 0 k)) e := by
  pointwise [k0_pay1, k0_pay2, rms]

/-- A step adds the products of its 512 hidden channels. -/
theorem pay3_apply (xn : Vec Ideal S512x2048 .bf16) (wg wu : Vec Ideal S1x2048x512 .bf16) (acc : Vec Ideal S512x2048 .f32) (wd : Vec Ideal S1x512x2048 .bf16)
    (r : Fin 512) (e : Fin 2048) :
    k0_pay3 xn wg wu acc wd (ix2 r e) = acc (ix2 r e)
      + ∑ u : Fin 512, hid (fun k => xn (ix2 r k)) (fun k => wg (ix3 0 k u)) (fun k => wu (ix3 0 k u)) * wd (ix3 0 u e) := by
  pointwise [k0_pay3, hid]

/-- The last step's norm of the sum. -/
theorem pay4_apply (x : Vec Ideal S512x2048 .f32) (g : Vec Ideal S1x2048 .f32) (r : Fin 512) (e : Fin 2048) :
    k0_pay4 x g (ix2 r e) = rms (fun k => x (ix2 r k)) (fun k => g (ix2 0 k)) e := by
  pointwise [k0_pay4, rms]

end Cert.Proof.Ffn0

end
-- ==== Proof.Ffn0Idx.lean ====
module

public import proofs.«01_k».proof.Proof.Gen.Kernel3Ideal.Value
public import proofs.«01_k».proof.Proof.FfnSpec
public import Idealize.ShloMosaic.Lib.Pipeline.ValueKit
public import Idealize.ShloMosaic.Lib.Pointwise

@[expose] public section

set_option maxRecDepth 16384

noncomputable section

/-! Where each grid step's operand blocks of the first layer's feed-forward call lie in the arguments. -/

namespace Cert.Proof.Ffn0

open Cert.Kernel3Ideal Cert.Kernel3Ideal.Gen Cert.Proof.Ffn Idealize.ShloMosaic Idealize.ShloMosaic.TcCoe Idealize.ShloMosaic.StableHlo
open Idealize.ShloMosaic.Pipeline (Dat)

/-- Every window's block index at every step: the block of rows is the slow grid coordinate, the block of hidden channels the fast one. -/
theorem idx : ∀ t : Fin cfg0.N, win0_0.index t = ![t.val / 11, 0] ∧ win0_1.index t = ![0, 0] ∧ win0_2.index t = ![0, 0, t.val % 11]
    ∧ win0_3.index t = ![0, 0, t.val % 11] ∧ win0_4.index t = ![0, t.val % 11, 0] ∧ win0_5.index t = ![0, 0]
    ∧ win0_6.index t = ![t.val / 11, 0] ∧ win0_7.index t = ![t.val / 11, 0] ∧ t.val < 352 :=
  (by decide +kernel : ∀ t : Fin grid0.N, _)

variable (m : (ℓ : Loc nD τ sig) → Buf (Elt Ideal) ℓ) (c : Dev nD) (t : Fin cfg0.N)

theorem lt : t.val < 352 := (idx t).2.2.2.2.2.2.2.2
/-- The row of the array that is row `r` of the step's block. -/
def rw (r : Fin 512) : Fin 16384 := ⟨512 * (t.val / 11) + r.val, by have := lt t; omega⟩
/-- The step's block of hidden channels. -/
def kt : Fin 11 := ⟨t.val % 11, by omega⟩

section blocks

theorem b0 (r : Fin 512) (e : Fin 2048) : (show Vec Ideal S512x2048 .f32 from iblk m c 0 t) (ix2 r e) = (show Vec Ideal S16384x2048 .f32 from V m c main_v0) (ix2 (rw t r) e) := by
  blk_simp [iblk]
  blk_ext [idx t, rw]
theorem b1 (e : Fin 2048) : (show Vec Ideal S1x2048 .f32 from iblk m c 1 t) (ix2 0 e) = (show Vec Ideal S1x2048 .f32 from V m c main_v3) (ix2 0 e) := by
  blk_simp [iblk]
  blk_ext [idx t]
theorem b2 (k : Fin 2048) (u : Fin 512) : (show Vec Ideal S1x2048x512 .bf16 from iblk m c 2 t) (ix3 0 k u) = (show Vec Ideal S2x2048x5632 .bf16 from V m c main_v4) (ix3 0 k (hc (kt t) u)) := by
  blk_simp [iblk]
  blk_ext [idx t, hc, kt]
theorem b3 (k : Fin 2048) (u : Fin 512) : (show Vec Ideal S1x2048x512 .bf16 from iblk m c 3 t) (ix3 0 k u) = (show Vec Ideal S2x2048x5632 .bf16 from V m c main_v5) (ix3 0 k (hc (kt t) u)) := by
  blk_simp [iblk]
  blk_ext [idx t, hc, kt]
theorem b4 (u : Fin 512) (e : Fin 2048) : (show Vec Ideal S1x512x2048 .bf16 from iblk m c 4 t) (ix3 0 u e) = (show Vec Ideal S2x5632x2048 .bf16 from V m c main_v6) (ix3 0 (hc (kt t) u) e) := by
  blk_simp [iblk]
  blk_ext [idx t, hc, kt]
theorem b5 (e : Fin 2048) : (show Vec Ideal S1x2048 .f32 from iblk m c 5 t) (ix2 0 e) = (show Vec Ideal S1x2048 .f32 from V m c main_v9) (ix2 0 e) := by
  blk_simp [iblk]
  blk_ext [idx t]
/-- Where step `t`'s result block lies in the result array. -/
theorem emb6 (r : Fin 512) (e : Fin 2048) : (show S16384x2048.Idx from (win0_6.blk t).view.emb (show S512x2048.Idx from ix2 r e)) = ix2 (rw t r) e := by
  blk_ext [idx t, rw]

theorem emb7 (r : Fin 512) (e : Fin 2048) : (show S16384x2048.Idx from (win0_7.blk t).view.emb (show S512x2048.Idx from ix2 r e)) = ix2 (rw t r) e := by
  blk_ext [idx t, rw]

end blocks

section host

theorem V0 : V m c main_v0 = (shapeCast S16384x2048 (m ((c.tc : Thread nD τ).loc main_arg0) : FVec Ideal S8x2048x2048 .f32) shapeCasts_S8x2048x2048_S16384x2048 : FVec Ideal S16384x2048 .f32) := by
  unfold V hostOps0
  simp only [List.flatten_cons, List.cons_append, List.nil_append, List.flatten_nil]
  after_results
  rfl
theorem V3 : V m c main_v3 = (shapeCast S1x2048 (shapeCast S2048 (extractStridedSlice S1x2048 ![0, 0] (m ((c.tc : Thread nD τ).loc main_arg1) : FVec Ideal S2x2048 .f32)
    slices_S2x2048_S1x2048_0_0) shapeCasts_S1x2048_S2048 : FVec Ideal S2048 .f32) shapeCasts_S2048_S1x2048 : FVec Ideal S1x2048 .f32) := by
  unfold V hostOps0
  simp only [List.flatten_cons, List.cons_append, List.nil_append, List.flatten_nil]
  after_results
  rfl
theorem V4 : V m c main_v4 = (truncf .bf16 (m ((c.tc : Thread nD τ).loc main_arg2) : FVec Ideal S2x2048x5632 .f32) bitsLt_bf16_f32 : FVec Ideal S2x2048x5632 .bf16) := by
  unfold V hostOps0
  simp only [List.flatten_cons, List.cons_append, List.nil_append, List.flatten_nil]
  after_results
theorem V5 : V m c main_v5 = (truncf .bf16 (m ((c.tc : Thread nD τ).loc main_arg3) : FVec Ideal S2x2048x5632 .f32) bitsLt_bf16_f32 : FVec Ideal S2x2048x5632 .bf16) := by
  unfold V hostOps0
  simp only [List.flatten_cons, List.cons_append, List.nil_append, List.flatten_nil]
  after_results
theorem V6 : V m c main_v6 = (truncf .bf16 (m ((c.tc : Thread nD τ).loc main_arg4) : FVec Ideal S2x5632x2048 .f32) bitsLt_bf16_f32 : FVec Ideal S2x5632x2048 .bf16) := by
  unfold V hostOps0
  simp only [List.flatten_cons, List.cons_append, List.nil_append, List.flatten_nil]
  after_results
theorem V7 : V m c main_v9 = (shapeCast S1x2048 (shapeCast S2048 (extractStridedSlice S1x2048 ![1, 0] (m ((c.tc : Thread nD τ).loc main_arg5) : FVec Ideal S2x2048 .f32)
    slices_S2x2048_S1x2048_1_0) shapeCasts_S1x2048_S2048 : FVec Ideal S2048 .f32) shapeCasts_S2048_S1x2048 : FVec Ideal S1x2048 .f32) := by
  unfold V hostOps0
  simp only [List.flatten_cons, List.cons_append, List.nil_append, List.flatten_nil]
  after_results
  rfl

theorem x_read (a : FVec Ideal S8x2048x2048 .f32) (R : Fin 16384) (e : Fin 2048) :
    (shapeCast S16384x2048 a shapeCasts_S8x2048x2048_S16384x2048 : FVec Ideal S16384x2048 .f32) (ix2 R e) = a (ix3 ⟨R.val / 2048, by omega⟩ ⟨R.val % 2048, by omega⟩ e) := by
  pointwise
theorem g_read (a : FVec Ideal S2x2048 .f32) (e : Fin 2048) :
    (shapeCast S1x2048 (shapeCast S2048 (extractStridedSlice S1x2048 ![0, 0] a slices_S2x2048_S1x2048_0_0) shapeCasts_S1x2048_S2048 : FVec Ideal S2048 .f32)
      shapeCasts_S2048_S1x2048 : FVec Ideal S1x2048 .f32) (ix2 0 e) = a (ix2 0 e) := by
  pointwise
theorem gn_read (a : FVec Ideal S2x2048 .f32) (e : Fin 2048) :
    (shapeCast S1x2048 (shapeCast S2048 (extractStridedSlice S1x2048 ![1, 0] a slices_S2x2048_S1x2048_1_0) shapeCasts_S1x2048_S2048 : FVec Ideal S2048 .f32)
      shapeCasts_S2048_S1x2048 : FVec Ideal S1x2048 .f32) (ix2 0 e) = a (ix2 1 e) := by
  pointwise

end host

end Cert.Proof.Ffn0

end
-- ==== Proof.Ffn0Value.lean ====
module

public import proofs.«01_k».proof.Proof.Ffn0Body
public import proofs.«01_k».proof.Proof.Ffn0Pay
public import proofs.«01_k».proof.Proof.Ffn0Idx

@[expose] public section

set_option maxRecDepth 16384

noncomputable section

/-! The first layer's feed-forward call's two result arrays: after every step the first block holds the activations and
    the hidden channels summed so far, the last step norms the whole sum into the second one, and the blocks cover the
    arrays. -/

namespace Cert.Proof.Ffn0

open Cert.Kernel3Ideal Cert.Kernel3Ideal.Gen Cert.Proof.Ffn Idealize.ShloMosaic Idealize.ShloMosaic.TcCoe
open Idealize.ShloMosaic.Pipeline (Dat)

variable (m : (ℓ : Loc nD τ sig) → Buf (Elt Ideal) ℓ) (c : Dev nD)

/-- Row `R` of the activations. -/
def X (R : Fin 16384) (k : Fin 2048) : EReal := (m ((c.tc : Thread nD τ).loc main_arg0) : FVec Ideal S8x2048x2048 .f32) (ix3 ⟨R.val / 2048, by omega⟩ ⟨R.val % 2048, by omega⟩ k)
/-- The first norm's scale. -/
def g1 (k : Fin 2048) : EReal := (m ((c.tc : Thread nD τ).loc main_arg1) : FVec Ideal S2x2048 .f32) (ix2 0 k)
def wg (k : Fin 2048) (f : Fin 5632) : EReal := (m ((c.tc : Thread nD τ).loc main_arg2) : FVec Ideal S2x2048x5632 .f32) (ix3 0 k f)
def wu (k : Fin 2048) (f : Fin 5632) : EReal := (m ((c.tc : Thread nD τ).loc main_arg3) : FVec Ideal S2x2048x5632 .f32) (ix3 0 k f)
def wd (f : Fin 5632) (k : Fin 2048) : EReal := (m ((c.tc : Thread nD τ).loc main_arg4) : FVec Ideal S2x5632x2048 .f32) (ix3 0 f k)
/-- The last norm's scale. -/
def g2 (k : Fin 2048) : EReal := (m ((c.tc : Thread nD τ).loc main_arg5) : FVec Ideal S2x2048 .f32) (ix2 1 k)

/-- What block `b` of the hidden channels adds to a row. -/
def part (R : Fin 16384) (e : Fin 2048) (b : Fin 11) : EReal :=
  ∑ u : Fin 512, hid (rms (X m c R) (g1 m c)) (fun k => wg m c k (hc b u)) (fun k => wu m c k (hc b u)) * wd m c (hc b u) e
/-- The row after the blocks up to `n`. -/
def acc (R : Fin 16384) (e : Fin 2048) (n : ℕ) : EReal := X m c R e + ∑ b ∈ Finset.range (n + 1), part m c R e ⟨b % 11, Nat.mod_lt _ (by decide)⟩

theorem acc_zero (R : Fin 16384) (e : Fin 2048) (b : Fin 11) (h : b.val = 0) : acc m c R e b.val = X m c R e + part m c R e b := by
  unfold acc
  rw [h, Finset.sum_range_one]
  exact congrArg (fun b => X m c R e + part m c R e b) (Fin.ext h.symm)

theorem acc_succ (R : Fin 16384) (e : Fin 2048) (b : Fin 11) (n : ℕ) (h : b.val = n + 1) : acc m c R e b.val = acc m c R e n + part m c R e b := by
  unfold acc
  rw [h, Finset.sum_range_succ _ (n + 1), ← add_assoc]
  exact congrArg (fun b => _ + part m c R e b) (Fin.ext (by show (n + 1) % 11 = b.val; omega))

/-- After all eleven blocks the row is the feed-forward part's. -/
theorem acc_all (R : Fin 16384) (e : Fin 2048) : acc m c R e 10 = res (X m c R) (g1 m c) (wg m c) (wu m c) (wd m c) e := by
  unfold acc res
  rw [sum_blocks, Finset.sum_range]
  refine congrArg (X m c R e + ·) (Finset.sum_congr rfl (fun b _ => ?_))
  exact congrArg (part m c R e) (Fin.ext (Nat.mod_eq_of_lt b.isLt))

section step

variable (t : Fin cfg0.N)

theorem x_at (r : Fin 512) (e : Fin 2048) : (show Vec Ideal S512x2048 .f32 from iblk m c 0 t) (ix2 r e) = X m c (rw t r) e :=
  (b0 m c t r e).trans ((congrFun (V0 m c) _).trans (x_read _ _ _))
theorem g1_at (e : Fin 2048) : (show Vec Ideal S1x2048 .f32 from iblk m c 1 t) (ix2 0 e) = g1 m c e :=
  (b1 m c t e).trans ((congrFun (V3 m c) _).trans (g_read _ _))
theorem wg_at (k : Fin 2048) (u : Fin 512) : (show Vec Ideal S1x2048x512 .bf16 from iblk m c 2 t) (ix3 0 k u) = wg m c k (hc (kt t) u) :=
  (b2 m c t k u).trans (congrFun (V4 m c) _)
theorem wu_at (k : Fin 2048) (u : Fin 512) : (show Vec Ideal S1x2048x512 .bf16 from iblk m c 3 t) (ix3 0 k u) = wu m c k (hc (kt t) u) :=
  (b3 m c t k u).trans (congrFun (V5 m c) _)
theorem wd_at (u : Fin 512) (e : Fin 2048) : (show Vec Ideal S1x512x2048 .bf16 from iblk m c 4 t) (ix3 0 u e) = wd m c (hc (kt t) u) e :=
  (b4 m c t u e).trans (congrFun (V6 m c) _)
theorem g2_at (e : Fin 2048) : (show Vec Ideal S1x2048 .f32 from iblk m c 5 t) (ix2 0 e) = g2 m c e :=
  (b5 m c t e).trans ((congrFun (V7 m c) _).trans (gn_read _ _))

/-- The normed rows that the first step writes. -/
theorem norm_at (r : Fin 512) (e : Fin 2048) : k0_pay2 (iblk m c 0 t) (iblk m c 1 t) (ix2 r e) = rms (X m c (rw t r)) (g1 m c) e :=
  (pay2_apply _ _ r e).trans (congrArg₂ (fun x g => rms x g e) (funext (x_at m c t r)) (funext (g1_at m c t)))

/-- A step adds its block's part. -/
theorem add_at (xn : Vec Ideal S512x2048 .bf16) (a : Vec Ideal S512x2048 .f32) (r : Fin 512) (hx : ∀ e, xn (ix2 r e) = rms (X m c (rw t r)) (g1 m c) e) (e : Fin 2048) :
    k0_pay3 xn (iblk m c 2 t) (iblk m c 3 t) a (iblk m c 4 t) (ix2 r e) = a (ix2 r e) + part m c (rw t r) e (kt t) := by
  refine (pay3_apply xn _ _ a _ r e).trans (congrArg (a (ix2 r e) + ·) (Finset.sum_congr rfl (fun u _ => ?_)))
  refine congrArg₂ (· * ·) ?_ (wd_at m c t u e)
  rw [funext hx]
  exact congrArg₂ (hid _) (funext (fun k => wg_at m c t k u)) (funext (fun k => wu_at m c t k u))

end step

/-- What the first result block and the normed rows hold after step `n`. -/
def Inv (n : ℕ) (hn : n < cfg0.N) : Prop :=
  (∀ (r : Fin 512) (e : Fin 2048), (outsAt0 m c n hn).1 (ix2 r e) = acc m c (rw ⟨n, hn⟩ r) e (n % 11))
  ∧ ∀ (r : Fin 512) (e : Fin 2048), (outsAt0 m c n hn).2.2 (ix2 r e) = rms (X m c (rw ⟨n, hn⟩ r)) (g1 m c) e

theorem rw_pred (n : ℕ) (hn : n < cfg0.N) (h : ¬n % 11 = 0) (r : Fin 512) : rw ⟨n - 1, Nat.lt_of_le_of_lt (Nat.sub_le _ _) hn⟩ r = rw ⟨n, hn⟩ r :=
  Fin.ext (by show 512 * ((n - 1) / 11) + r.val = 512 * (n / 11) + r.val; omega)

theorem inv_first (n : ℕ) (hn : n < cfg0.N) (h0 : n % 11 = 0) : Inv m c n hn := by
  have E := first m c ⟨n, hn⟩ h0 (by show ¬n % 11 = 10; omega)
  refine ⟨fun r e => ?_, fun r e => (congrFun E.2 _).trans (norm_at m c ⟨n, hn⟩ r e)⟩
  refine (congrFun E.1 _).trans ((add_at m c ⟨n, hn⟩ _ _ r (norm_at m c ⟨n, hn⟩ r) e).trans ?_)
  refine Eq.trans ?_ (acc_zero m c (rw ⟨n, hn⟩ r) e (kt ⟨n, hn⟩) h0).symm
  exact congrArg (· + _) ((pay1_apply _ r e).trans (x_at m c ⟨n, hn⟩ r e))

/-- The sum that a later step forms. -/
theorem sum_at (n : ℕ) (hn : n < cfg0.N) (h0 : ¬n % 11 = 0) (I : Inv m c (n - 1) (Nat.lt_of_le_of_lt (Nat.sub_le _ _) hn)) (r : Fin 512) (e : Fin 2048) :
    k0_pay3 (outsAt0 m c (n - 1) (Nat.lt_of_le_of_lt (Nat.sub_le _ _) hn)).2.2 (iblk m c 2 ⟨n, hn⟩) (iblk m c 3 ⟨n, hn⟩)
      (outsAt0 m c (n - 1) (Nat.lt_of_le_of_lt (Nat.sub_le _ _) hn)).1 (iblk m c 4 ⟨n, hn⟩) (ix2 r e) = acc m c (rw ⟨n, hn⟩ r) e (n % 11) := by
  refine (add_at m c ⟨n, hn⟩ _ _ r (fun e => (I.2 r e).trans (by rw [rw_pred n hn h0])) e).trans ?_
  refine Eq.trans ?_ (acc_succ m c (rw ⟨n, hn⟩ r) e (kt ⟨n, hn⟩) ((n - 1) % 11) (by show n % 11 = (n - 1) % 11 + 1; omega)).symm
  exact congrArg (· + _) ((I.1 r e).trans (by rw [rw_pred n hn h0]))

theorem inv : ∀ (n : ℕ) (hn : n < cfg0.N), Inv m c n hn := by
  intro n
  induction n with
  | zero => exact fun hn => inv_first m c 0 hn rfl
  | succ n ih =>
    intro hn
    by_cases h0 : (n + 1) % 11 = 0
    · exact inv_first m c (n + 1) hn h0
    have I := ih (Nat.lt_of_succ_lt hn)
    by_cases h1 : (n + 1) % 11 = 10
    · have E := last m c ⟨n + 1, hn⟩ h0 h1
      exact ⟨fun r e => (congrFun E.1 _).trans (sum_at m c (n + 1) hn h0 I r e),
        fun r e => (congrFun E.2.2 _).trans ((I.2 r e).trans (by rw [← rw_pred (n + 1) hn h0]; rfl))⟩
    · have E := middle m c ⟨n + 1, hn⟩ h0 h1
      exact ⟨fun r e => (congrFun E.1 _).trans (sum_at m c (n + 1) hn h0 I r e),
        fun r e => (congrFun E.2 _).trans ((I.2 r e).trans (by rw [← rw_pred (n + 1) hn h0]; rfl))⟩

/-- The array of all rows after the feed-forward part. -/
def G (i : S16384x2048.Idx) : EReal := res (X m c (i 0)) (g1 m c) (wg m c) (wu m c) (wd m c) (i 1)
/-- The array of their norms. -/
def Gn (i : S16384x2048.Idx) : EReal := out (X m c (i 0)) (g1 m c) (wg m c) (wu m c) (wd m c) (g2 m c) (i 1)

/-- What the first block holds after the last step of a block of rows. -/
theorem res_at (t : Fin cfg0.N) (h1 : t.val % 11 = 10) (r : Fin 512) (e : Fin 2048) :
    (outsAt0 m c t.val t.isLt).1 (ix2 r e) = G m c (ix2 (rw t r) e) := by
  refine ((inv m c t.val t.isLt).1 r e).trans ?_
  rw [h1]
  exact acc_all m c (rw t r) e

/-- What the last step of a block of rows writes to the second block. -/
theorem out_at (t : Fin cfg0.N) (h1 : t.val % 11 = 10) (r : Fin 512) (e : Fin 2048) :
    (outsAt0 m c t.val t.isLt).2.1 (ix2 r e) = Gn m c (ix2 (rw t r) e) := by
  have h0 : ¬t.val % 11 = 0 := by omega
  refine (congrFun (last m c t h0 h1).2.1 _).trans ((pay4_apply _ _ r e).trans ?_)
  refine congrArg₂ (fun x g => rms x g e) (funext (fun k => ?_)) (funext (g2_at m c t))
  refine (sum_at m c t.val t.isLt h0 (inv m c _ _) r k).trans ?_
  rw [h1]
  exact acc_all m c (rw t r) k

/-- After every step has run, the first result array holds every row after the feed-forward part. -/
theorem final : (dats m 0 c).arrAt 6 cfg0.N = G m c := by
  refine (dats m 0 c).arrAt_eq_of_covers 6 (G m c) (by decide +kernel) (fun t hf y => ?_)
  have h1 : t.val % 11 = 10 := (flush0_6 t).1 hf
  blk_simp
  rw [after0_6]
  revert y
  suffices h : ∀ y : S512x2048.Idx, _ by exact h
  intro y
  obtain ⟨r, e, rfl⟩ : ∃ (r : Fin 512) (e : Fin 2048), y = ix2 r e := ⟨y 0, y 1, by
    funext a
    fin_cases a <;> rfl⟩
  refine (res_at m c t h1 r e).trans ?_
  refine Eq.trans ?_ (congrArg (G m c) (emb6 t r e)).symm
  rfl

/-- And the second one the norms. -/
theorem finaln : (dats m 0 c).arrAt 7 cfg0.N = Gn m c := by
  refine (dats m 0 c).arrAt_eq_of_covers 7 (Gn m c) (by decide +kernel) (fun t hf y => ?_)
  have h1 : t.val % 11 = 10 := (flush0_7 t).1 hf
  blk_simp
  rw [after0_7]
  revert y
  suffices h : ∀ y : S512x2048.Idx, _ by exact h
  intro y
  obtain ⟨r, e, rfl⟩ : ∃ (r : Fin 512) (e : Fin 2048), y = ix2 r e := ⟨y 0, y 1, by
    funext a
    fin_cases a <;> rfl⟩
  refine (out_at m c t h1 r e).trans ?_
  refine Eq.trans ?_ (congrArg (Gn m c) (emb7 t r e)).symm
  rfl

end Cert.Proof.Ffn0

end
-- ==== Proof.Ffn0Ref.lean ====
module

public import proofs.«01_k».proof.Proof.Gen.Reference3Ideal.Run
public import proofs.«01_k».proof.Proof.FfnSpec
public import Idealize.ShloMosaic.Lib.Pipeline.ValueKit

@[expose] public section

set_option maxRecDepth 16384

noncomputable section

/-! What the reference of the first layer's feed-forward call computes: named array by array, and read at an index. -/

namespace Cert.Proof.Ffn0Ref

open Cert.Reference3Ideal Cert.Reference3Ideal.Gen Idealize.ShloMosaic Idealize.ShloMosaic.TcCoe Cert.Proof.Ffn

/-- The norm of every row. -/
def rmsA (x : FVec Ideal S8x2048x2048 .f32) (g : FVec Ideal S2048 .f32) : FVec Ideal S8x2048x2048 .f32 :=
  mulf (mulf x (broadcastInDim S8x2048x2048 ![0, 1, 2] bcast_S8x2048x1_S8x2048x2048_0_1_2 (Host.rsqrt (addf (Host.divf
    (broadcastInDim S8x2048x1 ![0, 1] bcast_S8x2048_S8x2048x1_0_1 (Host.reduceAdd (mulf x x) (constant S_ .f32 0x00000000#32) reducesTo_S8x2048x2048_S8x2048_d2 h_S_))
    (broadcastInDim S8x2048x1 ![] bcast_S_S8x2048x1 (constant S_ .f32 0x45000000#32))) (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 g))

/-- The scale of the first norm: the first layer's. -/
def gA (a1 : FVec Ideal S2x2048 .f32) : FVec Ideal S2048 .f32 := shapeCast S2048 (extractStridedSlice S1x2048 ![0, 0] a1 slices_S2x2048_S1x2048_0_0) shapeCasts_S1x2048_S2048

/-- The scale of the next layer's norm. -/
def gnA (a5 : FVec Ideal S2x2048 .f32) : FVec Ideal S2048 .f32 := shapeCast S2048 (extractStridedSlice S1x2048 ![1, 0] a5 slices_S2x2048_S1x2048_1_0) shapeCasts_S1x2048_S2048

/-- The product with a weight of the first layer. -/
def projA (n : FVec Ideal S8x2048x2048 .f32) (w : FVec Ideal S2x2048x5632 .f32) : FVec Ideal S8x2048x5632 .f32 :=
  Host.dotGeneral dot_S8x2048x2048_S2048x5632_S8x2048x5632_2_0_01_1_n_n none n
    (shapeCast S2048x5632 (extractStridedSlice S1x2048x5632 ![0, 0, 0] w slices_S2x2048x5632_S1x2048x5632_0_0_0) shapeCasts_S1x2048x5632_S2048x5632)

/-- The array of ones. -/
def oneA : FVec Ideal S8x2048x5632 .f32 := broadcastInDim S8x2048x5632 ![] bcast_S_S8x2048x5632 (constant S_ .f32 0x3F800000#32)

/-- The hidden channels of two products. -/
def hidA (p q : FVec Ideal S8x2048x5632 .f32) : FVec Ideal S8x2048x5632 .f32 :=
  mulf (mulf p (Host.divf oneA (addf oneA (Host.exp (Host.negf p))))) q

/-- The activations after the feed-forward part. -/
def resA (x : FVec Ideal S8x2048x2048 .f32) (h : FVec Ideal S8x2048x5632 .f32) (w : FVec Ideal S2x5632x2048 .f32) : FVec Ideal S8x2048x2048 .f32 :=
  addf x (Host.dotGeneral dot_S8x2048x5632_S5632x2048_S8x2048x2048_2_0_01_1_n_n none h
    (shapeCast S5632x2048 (extractStridedSlice S1x5632x2048 ![0, 0, 0] w slices_S2x5632x2048_S1x5632x2048_0_0_0) shapeCasts_S1x5632x2048_S5632x2048))

theorem rmsA_apply (x : FVec Ideal S8x2048x2048 .f32) (g : FVec Ideal S2048 .f32) (i : Fin 8) (s e : Fin 2048) :
    rmsA x g (ix3 i s e) = rms (fun k => x (ix3 i s k)) (fun k => g (ix1 k)) e := by
  pointwise [rmsA, rms]
theorem gA_apply (a1 : FVec Ideal S2x2048 .f32) (e : Fin 2048) : gA a1 (ix1 e) = a1 (ix2 0 e) := by
  pointwise [gA]
theorem gnA_apply (a5 : FVec Ideal S2x2048 .f32) (e : Fin 2048) : gnA a5 (ix1 e) = a5 (ix2 1 e) := by
  pointwise [gnA]
theorem projA_apply (n : FVec Ideal S8x2048x2048 .f32) (w : FVec Ideal S2x2048x5632 .f32) (i : Fin 8) (s : Fin 2048) (f : Fin 5632) :
    projA n w (ix3 i s f) = ∑ k : Fin 2048, n (ix3 i s k) * w (ix3 0 k f) := by
  pointwise [projA]
theorem hidA_apply (p q : FVec Ideal S8x2048x5632 .f32) (i : Fin 8) (s : Fin 2048) (f : Fin 5632) :
    hidA p q (ix3 i s f) = (p (ix3 i s f) * Ideal.logistic (p (ix3 i s f))) * q (ix3 i s f) := by
  pointwise [hidA, oneA]
  rfl
theorem resA_apply (x : FVec Ideal S8x2048x2048 .f32) (h : FVec Ideal S8x2048x5632 .f32) (w : FVec Ideal S2x5632x2048 .f32) (i : Fin 8) (s e : Fin 2048) :
    resA x h w (ix3 i s e) = x (ix3 i s e) + ∑ f : Fin 5632, h (ix3 i s f) * w (ix3 0 f e) := by
  pointwise [resA]

variable (m : (ℓ : Loc nD τ sig) → Buf (Elt Ideal) ℓ) (c : Dev nD)

/-- The reference's activations after the feed-forward part, by the named arrays. -/
def refR (a0 : FVec Ideal S8x2048x2048 .f32) (a1 : FVec Ideal S2x2048 .f32) (a2 a3 : FVec Ideal S2x2048x5632 .f32) (a4 : FVec Ideal S2x5632x2048 .f32) : FVec Ideal S8x2048x2048 .f32 :=
  resA a0 (hidA (projA (rmsA a0 (gA a1)) a2) (projA (rmsA a0 (gA a1)) a3)) a4
/-- Its first result. -/
def refA (a0 : FVec Ideal S8x2048x2048 .f32) (a1 : FVec Ideal S2x2048 .f32) (a2 a3 : FVec Ideal S2x2048x5632 .f32) (a4 : FVec Ideal S2x5632x2048 .f32) : FVec Ideal S16384x2048 .f32 :=
  shapeCast S16384x2048 (refR a0 a1 a2 a3 a4) shapeCasts_S8x2048x2048_S16384x2048
/-- Its second result. -/
def refN (a0 : FVec Ideal S8x2048x2048 .f32) (a1 : FVec Ideal S2x2048 .f32) (a2 a3 : FVec Ideal S2x2048x5632 .f32) (a4 : FVec Ideal S2x5632x2048 .f32)
    (a5 : FVec Ideal S2x2048 .f32) : FVec Ideal S16384x2048 .bf16 :=
  truncf .bf16 (shapeCast S16384x2048 (rmsA (refR a0 a1 a2 a3 a4) (gnA a5)) shapeCasts_S8x2048x2048_S16384x2048 : FVec Ideal S16384x2048 .f32) bitsLt_bf16_f32

theorem resn_eq : Value.res_out1 m c = refN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Value.res_out1 Value.res_main_v44
  rfl

theorem cast_apply (x : FVec Ideal S8x2048x2048 .f32) (R : Fin 16384) (e : Fin 2048) :
    (shapeCast S16384x2048 x shapeCasts_S8x2048x2048_S16384x2048 : FVec Ideal S16384x2048 .f32) (ix2 R e) = x (ix3 ⟨R.val / 2048, by omega⟩ ⟨R.val % 2048, by omega⟩ e) := by
  pointwise
theorem castn_apply (x : FVec Ideal S8x2048x2048 .f32) (R : Fin 16384) (e : Fin 2048) :
    (truncf .bf16 (shapeCast S16384x2048 x shapeCasts_S8x2048x2048_S16384x2048 : FVec Ideal S16384x2048 .f32) bitsLt_bf16_f32 : FVec Ideal S16384x2048 .bf16) (ix2 R e)
      = x (ix3 ⟨R.val / 2048, by omega⟩ ⟨R.val % 2048, by omega⟩ e) := by
  pointwise

theorem refA_apply (a0 : FVec Ideal S8x2048x2048 .f32) (a1 : FVec Ideal S2x2048 .f32) (a2 a3 : FVec Ideal S2x2048x5632 .f32) (a4 : FVec Ideal S2x5632x2048 .f32) (R : Fin 16384) (e : Fin 2048) :
    refA a0 a1 a2 a3 a4 (ix2 R e) = res (fun k => a0 (ix3 ⟨R.val / 2048, by omega⟩ ⟨R.val % 2048, by omega⟩ k)) (fun k => a1 (ix2 0 k)) (fun k f => a2 (ix3 0 k f))
      (fun k f => a3 (ix3 0 k f)) (fun f k => a4 (ix3 0 f k)) e := by
  unfold refA refR res hid
  rw [cast_apply]
  simp only [rmsA_apply, resA_apply, hidA_apply, projA_apply, gA_apply]

theorem refN_apply (a0 : FVec Ideal S8x2048x2048 .f32) (a1 : FVec Ideal S2x2048 .f32) (a2 a3 : FVec Ideal S2x2048x5632 .f32) (a4 : FVec Ideal S2x5632x2048 .f32)
    (a5 : FVec Ideal S2x2048 .f32) (R : Fin 16384) (e : Fin 2048) :
    refN a0 a1 a2 a3 a4 a5 (ix2 R e) = out (fun k => a0 (ix3 ⟨R.val / 2048, by omega⟩ ⟨R.val % 2048, by omega⟩ k)) (fun k => a1 (ix2 0 k)) (fun k f => a2 (ix3 0 k f))
      (fun k f => a3 (ix3 0 k f)) (fun f k => a4 (ix3 0 f k)) (fun k => a5 (ix2 1 k)) e := by
  unfold refN refR out res hid
  rw [castn_apply]
  simp only [rmsA_apply, resA_apply, hidA_apply, projA_apply, gA_apply, gnA_apply]

end Cert.Proof.Ffn0Ref

end
-- ==== Proof.HyOut.lean ====
module

public import proofs.«01_k».proof.Proof.Gen.Kernel4Ideal.Value
public import Idealize.ShloMosaic.Lib.Pipeline.ValueKit
public import Idealize.ShloMosaic.Lib.Pointwise

@[expose] public section

set_option maxRecDepth 16384

noncomputable section

/-! The Hyena layer's output projection: what its result array holds. -/

namespace Cert.Proof.HyOut

open Cert.Kernel4Ideal Cert.Kernel4Ideal.Gen Idealize.ShloMosaic Idealize.ShloMosaic.TcCoe Idealize.ShloMosaic.StableHlo
open Idealize.ShloMosaic.Pipeline (Dat)

/-- A result entry: the residual, the row's product with the weight's column, and the bias. -/
def proj (a : Fin 2048 → EReal) (x : EReal) (w : Fin 2048 → EReal) (b : EReal) : EReal := (x + ∑ k, a k * w k) + b

/-- What a step writes. -/
theorem pay_apply (x : Vec Ideal S512x2048 .f32) (a : Vec Ideal S512x2048 .bf16) (w : Vec Ideal S2048x2048 .bf16) (b : Vec Ideal S1x2048 .f32) (r : Fin 512) (e : Fin 2048) :
    k0_pay1 x a w b (ix2 r e) = proj (fun k => a (ix2 r k)) (x (ix2 r e)) (fun k => w (ix2 k e)) (b (ix2 0 e)) := by
  pointwise [k0_pay1, proj]

/-- Every window's block index at every step. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ t.val < 32 :=
  (by decide +kernel : ∀ t : Fin grid0.N, _)

variable (m : (ℓ : Loc nD τ sig) → Buf (Elt Ideal) ℓ) (c : Dev nD) (t : Fin cfg0.N)

theorem lt : t.val < 32 := (idx t).2.2.2.2.2
/-- The row of the array that is row `r` of the step's block. -/
def rw (r : Fin 512) : Fin 16384 := ⟨512 * t.val + r.val, by have := lt t; omega⟩

theorem b0 (r : Fin 512) (e : Fin 2048) : (show Vec Ideal S512x2048 .bf16 from iblk m c 0 t) (ix2 r e) = (show Vec Ideal S16384x2048 .bf16 from V m c main_v1) (ix2 (rw t r) e) := by
  blk_simp [iblk]
  blk_ext [idx t, rw]
theorem b1 (r : Fin 512) (e : Fin 2048) : (show Vec Ideal S512x2048 .f32 from iblk m c 1 t) (ix2 r e) = (show Vec Ideal S16384x2048 .f32 from V m c main_v2) (ix2 (rw t r) e) := by
  blk_simp [iblk]
  blk_ext [idx t, rw]
theorem b2 (k e : Fin 2048) : (show Vec Ideal S2048x2048 .bf16 from iblk m c 2 t) (ix2 k e) = (show Vec Ideal S2048x2048 .bf16 from V m c main_v4) (ix2 k e) := by
  blk_simp [iblk]
  blk_ext [idx t, rw]
theorem b3 (e : Fin 2048) : (show Vec Ideal S1x2048 .f32 from iblk m c 3 t) (ix2 0 e) = (show Vec Ideal S1x2048 .f32 from V m c main_v6) (ix2 0 e) := by
  blk_simp [iblk]
  blk_ext [idx t, rw]
/-- Where the step's result block lies in the result array. -/
theorem emb (r : Fin 512) (e : Fin 2048) : (show S16384x2048.Idx from (win0_4.blk t).view.emb (show S512x2048.Idx from ix2 r e)) = ix2 (rw t r) e := by
  blk_ext [idx t, rw]

theorem V1 : V m c main_v1 = (shapeCast S16384x2048 (truncf .bf16 (m ((c.tc : Thread nD τ).loc main_arg0) : FVec Ideal S8x2048x2048 .f32) bitsLt_bf16_f32 : FVec Ideal S8x2048x2048 .bf16) shapeCasts_S8x2048x2048_S16384x2048 : FVec Ideal S16384x2048 .bf16) := by
  unfold V hostOps0
  simp only [List.flatten_cons, List.cons_append, List.nil_append, List.flatten_nil]
  after_results
  rfl
theorem V2 : V m c main_v2 = (shapeCast S16384x2048 (m ((c.tc : Thread nD τ).loc main_arg1) : FVec Ideal S8x2048x2048 .f32) shapeCasts_S8x2048x2048_S16384x2048 : FVec Ideal S16384x2048 .f32) := by
  unfold V hostOps0
  simp only [List.flatten_cons, List.cons_append, List.nil_append, List.flatten_nil]
  after_results
  rfl
theorem V4 : V m c main_v4 = (truncf .bf16 (shapeCast S2048x2048 (m ((c.tc : Thread nD τ).loc main_arg2) : FVec Ideal S1x2048x2048 .f32) shapeCasts_S1x2048x2048_S2048x2048 : FVec Ideal S2048x2048 .f32) bitsLt_bf16_f32 : FVec Ideal S2048x2048 .bf16) := by
  unfold V hostOps0
  simp only [List.flatten_cons, List.cons_append, List.nil_append, List.flatten_nil]
  after_results
  rfl
theorem V6 : V m c main_v6 = (shapeCast S1x2048 (shapeCast S2048 (m ((c.tc : Thread nD τ).loc main_arg3) : FVec Ideal S1x2048 .f32) shapeCasts_S1x2048_S2048 : FVec Ideal S2048 .f32) shapeCasts_S2048_S1x2048 : FVec Ideal S1x2048 .f32) := by
  unfold V hostOps0
  simp only [List.flatten_cons, List.cons_append, List.nil_append, List.flatten_nil]
  after_results
  rfl

theorem xb_read (a : FVec Ideal S8x2048x2048 .f32) (R : Fin 16384) (e : Fin 2048) :
    (shapeCast S16384x2048 (truncf .bf16 a bitsLt_bf16_f32 : FVec Ideal S8x2048x2048 .bf16) shapeCasts_S8x2048x2048_S16384x2048 : FVec Ideal S16384x2048 .bf16) (ix2 R e)
      = a (ix3 ⟨R.val / 2048, by omega⟩ ⟨R.val % 2048, by omega⟩ e) := by
  pointwise
theorem x_read (a : FVec Ideal S8x2048x2048 .f32) (R : Fin 16384) (e : Fin 2048) :
    (shapeCast S16384x2048 a shapeCasts_S8x2048x2048_S16384x2048 : FVec Ideal S16384x2048 .f32) (ix2 R e) = a (ix3 ⟨R.val / 2048, by omega⟩ ⟨R.val % 2048, by omega⟩ e) := by
  pointwise
theorem w_read (a : FVec Ideal S1x2048x2048 .f32) (k e : Fin 2048) :
    (truncf .bf16 (shapeCast S2048x2048 a shapeCasts_S1x2048x2048_S2048x2048 : FVec Ideal S2048x2048 .f32) bitsLt_bf16_f32 : FVec Ideal S2048x2048 .bf16) (ix2 k e) = a (ix3 0 k e) := by
  pointwise
theorem row_read (a : FVec Ideal S1x2048 .f32) (e : Fin 2048) :
    (shapeCast S1x2048 (shapeCast S2048 a shapeCasts_S1x2048_S2048 : FVec Ideal S2048 .f32) shapeCasts_S2048_S1x2048 : FVec Ideal S1x2048 .f32) (ix2 0 e) = a (ix2 0 e) := by
  pointwise

/-- The result at row `R`, channel `e`. -/
def gAt (R : Fin 16384) (e : Fin 2048) : EReal :=
  proj (fun k => (m ((c.tc : Thread nD τ).loc main_arg0) : FVec Ideal S8x2048x2048 .f32) (ix3 ⟨R.val / 2048, by omega⟩ ⟨R.val % 2048, by omega⟩ k))
    ((m ((c.tc : Thread nD τ).loc main_arg1) : FVec Ideal S8x2048x2048 .f32) (ix3 ⟨R.val / 2048, by omega⟩ ⟨R.val % 2048, by omega⟩ e))
    (fun k => (m ((c.tc : Thread nD τ).loc main_arg2) : FVec Ideal S1x2048x2048 .f32) (ix3 0 k e)) ((m ((c.tc : Thread nD τ).loc main_arg3) : FVec Ideal S1x2048 .f32) (ix2 0 e))
/-- The array of all results. -/
def G (i : S16384x2048.Idx) : EReal := gAt m c (i 0) (i 1)

/-- What a step writes, in the arguments' terms. -/
theorem val_at (r : Fin 512) (e : Fin 2048) : k0_pay1 (iblk m c 1 t) (iblk m c 0 t) (iblk m c 2 t) (iblk m c 3 t) (ix2 r e) = gAt m c (rw t r) e := by
  refine (pay_apply _ _ _ _ r e).trans ?_
  unfold gAt
  refine congr (congr (congrArg₂ proj ?_ ?_) ?_) ?_
  · exact funext (fun k => (b0 m c t r k).trans ((congrFun (V1 m c) _).trans (xb_read _ _ _)))
  · exact (b1 m c t r e).trans ((congrFun (V2 m c) _).trans (x_read _ _ _))
  · exact funext (fun k => (b2 m c t k e).trans ((congrFun (V4 m c) _).trans (w_read _ _ _)))
  · exact (b3 m c t e).trans ((congrFun (V6 m c) _).trans (row_read _ _))

/-- The block that a step leaves. -/
theorem out_at (r : Fin 512) (e : Fin 2048) : out0_4 (iblk m c 0 t) (iblk m c 1 t) (iblk m c 2 t) (iblk m c 3 t) (ix2 r e) = gAt m c (rw t r) e := by
  refine Eq.trans ?_ (val_at m c t r e)
  unfold out0_4
  refine congrFun ?_ (ix2 r e)
  refine (View.canon_cons_unit_lit _ _ _ (by decide)).trans ?_
  exact congr (congr (congrArg₂ k0_pay1 (View.ld_unit_lit _ _ (by decide)) (View.ld_unit_lit _ _ (by decide))) (View.ld_unit_lit _ _ (by decide))) (View.ld_unit_lit _ _ (by decide))

/-- After every step has run, the result array is that one. -/
theorem final : (dats m 0 c).arrAt 4 cfg0.N = G m c := by
  refine (dats m 0 c).arrAt_eq_of_covers 4 (G m c) (by decide +kernel) (fun t hf y => ?_)
  blk_simp
  rw [after0_4]
  revert y
  suffices h : ∀ y : S512x2048.Idx, _ by exact h
  intro y
  obtain ⟨r, e, rfl⟩ : ∃ (r : Fin 512) (e : Fin 2048), y = ix2 r e := ⟨y 0, y 1, by
    funext a
    fin_cases a <;> rfl⟩
  refine (out_at m c t r e).trans ?_
  refine Eq.trans ?_ (congrArg (G m c) (emb t r e)).symm
  rfl

end Cert.Proof.HyOut

end
-- ==== Proof.HyOutRef.lean ====
module

public import proofs.«01_k».proof.Proof.Gen.Reference4Ideal.Run
public import Idealize.ShloMosaic.Lib.Pipeline.ValueKit
public import Idealize.ShloMosaic.Lib.Pointwise
public import proofs.«01_k».proof.Proof.HyOut

@[expose] public section

set_option maxRecDepth 16384

noncomputable section

/-! What the reference of the Hyena layer's output projection computes. -/

namespace Cert.Proof.HyOutRef

open Cert.Reference4Ideal Cert.Reference4Ideal.Gen Idealize.ShloMosaic Idealize.ShloMosaic.TcCoe

/-- Its result. -/
def refA (a0 a1 : FVec Ideal S8x2048x2048 .f32) (a2 : FVec Ideal S1x2048x2048 .f32) (a3 : FVec Ideal S1x2048 .f32) : FVec Ideal S16384x2048 .f32 :=
  shapeCast S16384x2048 (addf a1 (addf (Host.dotGeneral dot_S8x2048x2048_S2048x2048_S8x2048x2048_2_0_01_1_n_n none a0 (shapeCast S2048x2048 a2 shapeCasts_S1x2048x2048_S2048x2048))
    (broadcastInDim S8x2048x2048 ![0, 1, 2] bcast_S1x1x2048_S8x2048x2048_0_1_2 (broadcastInDim S1x1x2048 ![2] bcast_S2048_S1x1x2048_2 (shapeCast S2048 a3 shapeCasts_S1x2048_S2048)))))
    shapeCasts_S8x2048x2048_S16384x2048

theorem refA_apply (a0 a1 : FVec Ideal S8x2048x2048 .f32) (a2 : FVec Ideal S1x2048x2048 .f32) (a3 : FVec Ideal S1x2048 .f32) (R : Fin 16384) (e : Fin 2048) :
    refA a0 a1 a2 a3 (ix2 R e) = HyOut.proj (fun k => a0 (ix3 ⟨R.val / 2048, by omega⟩ ⟨R.val % 2048, by omega⟩ k)) (a1 (ix3 ⟨R.val / 2048, by omega⟩ ⟨R.val % 2048, by omega⟩ e))
      (fun k => a2 (ix3 0 k e)) (a3 (ix2 0 e)) := by
  unfold HyOut.proj
  rw [add_assoc]
  pointwise [refA]

end Cert.Proof.HyOutRef

end
-- ==== Proof.ConfOut.lean ====
module

public import proofs.«01_k».proof.Proof.Gen.Kernel5Ideal.Value
public import Idealize.ShloMosaic.Lib.Pipeline.ValueKit
public import Idealize.ShloMosaic.Lib.Pointwise

@[expose] public section

set_option maxRecDepth 16384

noncomputable section

/-! The Conformer module's second half: what its result array holds. -/

namespace Cert.Proof.ConfOut

open Cert.Kernel5Ideal Cert.Kernel5Ideal.Gen Idealize.ShloMosaic Idealize.ShloMosaic.TcCoe Idealize.ShloMosaic.StableHlo
open Idealize.ShloMosaic.Pipeline (Dat)

/-- A row's mean. -/
def mean (y : Fin 2048 → EReal) : EReal := Ideal.div (∑ k, y k) (Ideal.ofBits .f32 0x45000000#32)
/-- The layer norm of a row. -/
def ln (y g b : Fin 2048 → EReal) (e : Fin 2048) : EReal :=
  (y e - mean y) * Ideal.rsqrt (mean (fun k => (y k - mean y) * (y k - mean y)) + Ideal.ofBits .f32 0x3727C5AC#32) * g e + b e
/-- A result entry: the residual, the activated normed row's product with the weight's column, and the bias. -/
def outv (y g b : Fin 2048 → EReal) (x : EReal) (w : Fin 2048 → EReal) (b2 : EReal) : EReal :=
  (x + ∑ k, (ln y g b k * Ideal.logistic (ln y g b k)) * w k) + b2

/-- What a step writes. -/
theorem pay_apply (y : Vec Ideal S512x2048 .f32) (g b : Vec Ideal S1x2048 .f32) (x : Vec Ideal S512x2048 .f32) (w : Vec Ideal S2048x2048 .bf16) (b2 : Vec Ideal S1x2048 .f32)
    (r : Fin 512) (e : Fin 2048) :
    k0_pay1 y g b x w b2 (ix2 r e) = outv (fun k => y (ix2 r k)) (fun k => g (ix2 0 k)) (fun k => b (ix2 0 k)) (x (ix2 r e)) (fun k => w (ix2 k e)) (b2 (ix2 0 e)) := by
  pointwise [k0_pay1, outv, ln, mean]

/-- Every window's block index at every step. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ t.val < 32 :=
  (by decide +kernel : ∀ t : Fin grid0.N, _)

variable (m : (ℓ : Loc nD τ sig) → Buf (Elt Ideal) ℓ) (c : Dev nD) (t : Fin cfg0.N)

theorem lt : t.val < 32 := (idx t).2.2.2.2.2.2.2
/-- The row of the array that is row `r` of the step's block. -/
def rw (r : Fin 512) : Fin 16384 := ⟨512 * t.val + r.val, by have := lt t; omega⟩

theorem b0 (r : Fin 512) (e : Fin 2048) : (show Vec Ideal S512x2048 .f32 from iblk m c 0 t) (ix2 r e) = (show Vec Ideal S16384x2048 .f32 from V m c main_v0) (ix2 (rw t r) e) := by
  blk_simp [iblk]
  blk_ext [idx t, rw]
theorem b1 (r : Fin 512) (e : Fin 2048) : (show Vec Ideal S512x2048 .f32 from iblk m c 1 t) (ix2 r e) = (show Vec Ideal S16384x2048 .f32 from V m c main_v1) (ix2 (rw t r) e) := by
  blk_simp [iblk]
  blk_ext [idx t, rw]
theorem b2 (e : Fin 2048) : (show Vec Ideal S1x2048 .f32 from iblk m c 2 t) (ix2 0 e) = (show Vec Ideal S1x2048 .f32 from V m c main_v3) (ix2 0 e) := by
  blk_simp [iblk]
  blk_ext [idx t, rw]
theorem b3 (e : Fin 2048) : (show Vec Ideal S1x2048 .f32 from iblk m c 3 t) (ix2 0 e) = (show Vec Ideal S1x2048 .f32 from V m c main_v5) (ix2 0 e) := by
  blk_simp [iblk]
  blk_ext [idx t, rw]
theorem b4 (k e : Fin 2048) : (show Vec Ideal S2048x2048 .bf16 from iblk m c 4 t) (ix2 k e) = (show Vec Ideal S2048x2048 .bf16 from V m c main_v7) (ix2 k e) := by
  blk_simp [iblk]
  blk_ext [idx t, rw]
theorem b5 (e : Fin 2048) : (show Vec Ideal S1x2048 .f32 from iblk m c 5 t) (ix2 0 e) = (show Vec Ideal S1x2048 .f32 from V m c main_v9) (ix2 0 e) := by
  blk_simp [iblk]
  blk_ext [idx t, rw]
/-- Where the step's result block lies in the result array. -/
theorem emb (r : Fin 512) (e : Fin 2048) : (show S16384x2048.Idx from (win0_6.blk t).view.emb (show S512x2048.Idx from ix2 r e)) = ix2 (rw t r) e := by
  blk_ext [idx t, rw]

theorem V0 : V m c main_v0 = (shapeCast S16384x2048 (m ((c.tc : Thread nD τ).loc main_arg0) : FVec Ideal S8x2048x2048 .f32) shapeCasts_S8x2048x2048_S16384x2048 : FVec Ideal S16384x2048 .f32) := by
  unfold V hostOps0
  simp only [List.flatten_cons, List.cons_append, List.nil_append, List.flatten_nil]
  after_results
  rfl
theorem V1 : V m c main_v1 = (shapeCast S16384x2048 (m ((c.tc : Thread nD τ).loc main_arg1) : FVec Ideal S8x2048x2048 .f32) shapeCasts_S8x2048x2048_S16384x2048 : FVec Ideal S16384x2048 .f32) := by
  unfold V hostOps0
  simp only [List.flatten_cons, List.cons_append, List.nil_append, List.flatten_nil]
  after_results
  rfl
theorem V3 : V m c main_v3 = (shapeCast S1x2048 (shapeCast S2048 (m ((c.tc : Thread nD τ).loc main_arg2) : FVec Ideal S1x2048 .f32) shapeCasts_S1x2048_S2048 : FVec Ideal S2048 .f32) shapeCasts_S2048_S1x2048 : FVec Ideal S1x2048 .f32) := by
  unfold V hostOps0
  simp only [List.flatten_cons, List.cons_append, List.nil_append, List.flatten_nil]
  after_results
  rfl
theorem V5 : V m c main_v5 = (shapeCast S1x2048 (shapeCast S2048 (m ((c.tc : Thread nD τ).loc main_arg3) : FVec Ideal S1x2048 .f32) shapeCasts_S1x2048_S2048 : FVec Ideal S2048 .f32) shapeCasts_S2048_S1x2048 : FVec Ideal S1x2048 .f32) := by
  unfold V hostOps0
  simp only [List.flatten_cons, List.cons_append, List.nil_append, List.flatten_nil]
  after_results
  rfl
theorem V7 : V m c main_v7 = (truncf .bf16 (shapeCast S2048x2048 (m ((c.tc : Thread nD τ).loc main_arg4) : FVec Ideal S1x2048x2048 .f32) shapeCasts_S1x2048x2048_S2048x2048 : FVec Ideal S2048x2048 .f32) bitsLt_bf16_f32 : FVec Ideal S2048x2048 .bf16) := by
  unfold V hostOps0
  simp only [List.flatten_cons, List.cons_append, List.nil_append, List.flatten_nil]
  after_results
  rfl
theorem V9 : V m c main_v9 = (shapeCast S1x2048 (shapeCast S2048 (m ((c.tc : Thread nD τ).loc main_arg5) : FVec Ideal S1x2048 .f32) shapeCasts_S1x2048_S2048 : FVec Ideal S2048 .f32) shapeCasts_S2048_S1x2048 : FVec Ideal S1x2048 .f32) := by
  unfold V hostOps0
  simp only [List.flatten_cons, List.cons_append, List.nil_append, List.flatten_nil]
  after_results
  rfl

theorem x_read (a : FVec Ideal S8x2048x2048 .f32) (R : Fin 16384) (e : Fin 2048) :
    (shapeCast S16384x2048 a shapeCasts_S8x2048x2048_S16384x2048 : FVec Ideal S16384x2048 .f32) (ix2 R e) = a (ix3 ⟨R.val / 2048, by omega⟩ ⟨R.val % 2048, by omega⟩ e) := by
  pointwise
theorem w_read (a : FVec Ideal S1x2048x2048 .f32) (k e : Fin 2048) :
    (truncf .bf16 (shapeCast S2048x2048 a shapeCasts_S1x2048x2048_S2048x2048 : FVec Ideal S2048x2048 .f32) bitsLt_bf16_f32 : FVec Ideal S2048x2048 .bf16) (ix2 k e) = a (ix3 0 k e) := by
  pointwise
theorem row_read (a : FVec Ideal S1x2048 .f32) (e : Fin 2048) :
    (shapeCast S1x2048 (shapeCast S2048 a shapeCasts_S1x2048_S2048 : FVec Ideal S2048 .f32) shapeCasts_S2048_S1x2048 : FVec Ideal S1x2048 .f32) (ix2 0 e) = a (ix2 0 e) := by
  pointwise

/-- The result at row `R`, channel `e`. -/
def gAt (R : Fin 16384) (e : Fin 2048) : EReal :=
  outv (fun k => (m ((c.tc : Thread nD τ).loc main_arg0) : FVec Ideal S8x2048x2048 .f32) (ix3 ⟨R.val / 2048, by omega⟩ ⟨R.val % 2048, by omega⟩ k))
    (fun k => (m ((c.tc : Thread nD τ).loc main_arg2) : FVec Ideal S1x2048 .f32) (ix2 0 k)) (fun k => (m ((c.tc : Thread nD τ).loc main_arg3) : FVec Ideal S1x2048 .f32) (ix2 0 k))
    ((m ((c.tc : Thread nD τ).loc main_arg1) : FVec Ideal S8x2048x2048 .f32) (ix3 ⟨R.val / 2048, by omega⟩ ⟨R.val % 2048, by omega⟩ e))
    (fun k => (m ((c.tc : Thread nD τ).loc main_arg4) : FVec Ideal S1x2048x2048 .f32) (ix3 0 k e)) ((m ((c.tc : Thread nD τ).loc main_arg5) : FVec Ideal S1x2048 .f32) (ix2 0 e))
/-- The array of all results. -/
def G (i : S16384x2048.Idx) : EReal := gAt m c (i 0) (i 1)

/-- What a step writes, in the arguments' terms. -/
theorem val_at (r : Fin 512) (e : Fin 2048) :
    k0_pay1 (iblk m c 0 t) (iblk m c 2 t) (iblk m c 3 t) (iblk m c 1 t) (iblk m c 4 t) (iblk m c 5 t) (ix2 r e) = gAt m c (rw t r) e := by
  refine (pay_apply _ _ _ _ _ _ r e).trans ?_
  unfold gAt
  refine congr (congr (congr (congr (congrArg₂ outv ?_ ?_) ?_) ?_) ?_) ?_
  · exact funext (fun k => (b0 m c t r k).trans ((congrFun (V0 m c) _).trans (x_read _ _ _)))
  · exact funext (fun k => (b2 m c t k).trans ((congrFun (V3 m c) _).trans (row_read _ _)))
  · exact funext (fun k => (b3 m c t k).trans ((congrFun (V5 m c) _).trans (row_read _ _)))
  · exact (b1 m c t r e).trans ((congrFun (V1 m c) _).trans (x_read _ _ _))
  · exact funext (fun k => (b4 m c t k e).trans ((congrFun (V7 m c) _).trans (w_read _ _ _)))
  · exact (b5 m c t e).trans ((congrFun (V9 m c) _).trans (row_read _ _))

/-- The block that a step leaves. -/
theorem out_at (r : Fin 512) (e : Fin 2048) :
    out0_6 (iblk m c 0 t) (iblk m c 1 t) (iblk m c 2 t) (iblk m c 3 t) (iblk m c 4 t) (iblk m c 5 t) (ix2 r e) = gAt m c (rw t r) e := by
  refine Eq.trans ?_ (val_at m c t r e)
  unfold out0_6
  refine congrFun ?_ (ix2 r e)
  refine (View.canon_cons_unit_lit _ _ _ (by decide)).trans ?_
  exact congr (congr (congr (congr (congrArg₂ k0_pay1 (View.ld_unit_lit _ _ (by decide)) (View.ld_unit_lit _ _ (by decide))) (View.ld_unit_lit _ _ (by decide))) (View.ld_unit_lit _ _ (by decide))) (View.ld_unit_lit _ _ (by decide))) (View.ld_unit_lit _ _ (by decide))

/-- After every step has run, the result array is that one. -/
theorem final : (dats m 0 c).arrAt 6 cfg0.N = G m c := by
  refine (dats m 0 c).arrAt_eq_of_covers 6 (G m c) (by decide +kernel) (fun t hf y => ?_)
  blk_simp
  rw [after0_6]
  revert y
  suffices h : ∀ y : S512x2048.Idx, _ by exact h
  intro y
  obtain ⟨r, e, rfl⟩ : ∃ (r : Fin 512) (e : Fin 2048), y = ix2 r e := ⟨y 0, y 1, by
    funext a
    fin_cases a <;> rfl⟩
  refine (out_at m c t r e).trans ?_
  refine Eq.trans ?_ (congrArg (G m c) (emb t r e)).symm
  rfl

end Cert.Proof.ConfOut

end
-- ==== Proof.ConfOutRef.lean ====
module

public import proofs.«01_k».proof.Proof.Gen.Reference5Ideal.Run
public import Idealize.ShloMosaic.Lib.Pipeline.ValueKit
public import Idealize.ShloMosaic.Lib.Pointwise
public import proofs.«01_k».proof.Proof.ConfOut

@[expose] public section

set_option maxRecDepth 16384

noncomputable section

/-! What the reference of the Conformer module's second half computes. -/

namespace Cert.Proof.ConfOutRef

open Cert.Reference5Ideal Cert.Reference5Ideal.Gen Idealize.ShloMosaic Idealize.ShloMosaic.TcCoe Cert.Proof.ConfOut

/-- The mean of every row, along the row. -/
def meanA (y : FVec Ideal S8x2048x2048 .f32) : FVec Ideal S8x2048x1 .f32 :=
  Host.divf (broadcastInDim S8x2048x1 ![0, 1] bcast_S8x2048_S8x2048x1_0_1 (Host.reduceAdd y (constant S_ .f32 0x00000000#32) reducesTo_S8x2048x2048_S8x2048_d2 h_S_))
    (broadcastInDim S8x2048x1 ![] bcast_S_S8x2048x1 (constant S_ .f32 0x45000000#32))
/-- Every row less its mean. -/
def centA (y : FVec Ideal S8x2048x2048 .f32) : FVec Ideal S8x2048x2048 .f32 :=
  subf y (broadcastInDim S8x2048x2048 ![0, 1, 2] bcast_S8x2048x1_S8x2048x2048_0_1_2 (meanA y))
/-- A scale or bias along every row. -/
def rowA (g : FVec Ideal S1x2048 .f32) : FVec Ideal S8x2048x2048 .f32 :=
  broadcastInDim S8x2048x2048 ![0, 1, 2] bcast_S1x1x2048_S8x2048x2048_0_1_2 (broadcastInDim S1x1x2048 ![2] bcast_S2048_S1x1x2048_2 (shapeCast S2048 g shapeCasts_S1x2048_S2048))
/-- The layer norm of every row. -/
def lnA (y : FVec Ideal S8x2048x2048 .f32) (g b : FVec Ideal S1x2048 .f32) : FVec Ideal S8x2048x2048 .f32 :=
  addf (mulf (mulf (centA y) (broadcastInDim S8x2048x2048 ![0, 1, 2] bcast_S8x2048x1_S8x2048x2048_0_1_2 (Host.rsqrt (addf (meanA (mulf (centA y) (centA y)))
    (broadcastInDim S8x2048x1 ![] bcast_S_S8x2048x1 (constant S_ .f32 0x3727C5AC#32)))))) (rowA g)) (rowA b)
/-- The array of ones. -/
def oneA : FVec Ideal S8x2048x2048 .f32 := broadcastInDim S8x2048x2048 ![] bcast_S_S8x2048x2048 (constant S_ .f32 0x3F800000#32)
/-- The activation. -/
def siluA (z : FVec Ideal S8x2048x2048 .f32) : FVec Ideal S8x2048x2048 .f32 := mulf z (Host.divf oneA (addf oneA (Host.exp (Host.negf z))))
/-- The projection of `u` with residual `x`. -/
def projA (u x : FVec Ideal S8x2048x2048 .f32) (w : FVec Ideal S1x2048x2048 .f32) (b : FVec Ideal S1x2048 .f32) : FVec Ideal S8x2048x2048 .f32 :=
  addf x (addf (Host.dotGeneral dot_S8x2048x2048_S2048x2048_S8x2048x2048_2_0_01_1_n_n none u (shapeCast S2048x2048 w shapeCasts_S1x2048x2048_S2048x2048)) (rowA b))
/-- The reference's result. -/
def refA (y x : FVec Ideal S8x2048x2048 .f32) (g b : FVec Ideal S1x2048 .f32) (w : FVec Ideal S1x2048x2048 .f32) (b2 : FVec Ideal S1x2048 .f32) : FVec Ideal S16384x2048 .f32 :=
  shapeCast S16384x2048 (projA (siluA (lnA y g b)) x w b2) shapeCasts_S8x2048x2048_S16384x2048

theorem res_eq (m : (ℓ : Loc nD τ sig) → Buf (Elt Ideal) ℓ) (c : Dev nD) :
    Value.res_out0 m c = refA (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_out0 Value.res_main_v34
  rfl

section reads

variable (i : Fin 8) (s e : Fin 2048)

theorem meanA_apply (y : FVec Ideal S8x2048x2048 .f32) : meanA y (ix3 i s 0) = mean (fun k => y (ix3 i s k)) := by
  pointwise [meanA, mean]
theorem centA_apply (y : FVec Ideal S8x2048x2048 .f32) : centA y (ix3 i s e) = y (ix3 i s e) - meanA y (ix3 i s 0) := by
  pointwise [centA]
theorem rowA_apply (g : FVec Ideal S1x2048 .f32) : rowA g (ix3 i s e) = g (ix2 0 e) := by
  pointwise [rowA]
theorem lnA_apply (y : FVec Ideal S8x2048x2048 .f32) (g b : FVec Ideal S1x2048 .f32) :
    lnA y g b (ix3 i s e) = centA y (ix3 i s e) * Ideal.rsqrt (meanA (mulf (centA y) (centA y)) (ix3 i s 0) + Ideal.ofBits .f32 0x3727C5AC#32) * rowA g (ix3 i s e) + rowA b (ix3 i s e) := by
  pointwise [lnA]
theorem lnA_eq (y : FVec Ideal S8x2048x2048 .f32) (g b : FVec Ideal S1x2048 .f32) :
    lnA y g b (ix3 i s e) = ln (fun k => y (ix3 i s k)) (fun k => g (ix2 0 k)) (fun k => b (ix2 0 k)) e := by
  rw [lnA_apply, centA_apply, meanA_apply, meanA_apply, rowA_apply, rowA_apply]
  unfold ln
  refine congrArg (fun v => _ * Ideal.rsqrt (mean v + _) * _ + _) (funext (fun k => ?_))
  show centA y (ix3 i s k) * centA y (ix3 i s k) = _
  rw [centA_apply, meanA_apply]
theorem siluA_apply (z : FVec Ideal S8x2048x2048 .f32) : siluA z (ix3 i s e) = z (ix3 i s e) * Ideal.logistic (z (ix3 i s e)) := by
  pointwise [siluA, oneA]
  rfl
theorem projA_apply (u x : FVec Ideal S8x2048x2048 .f32) (w : FVec Ideal S1x2048x2048 .f32) (b : FVec Ideal S1x2048 .f32) :
    projA u x w b (ix3 i s e) = x (ix3 i s e) + ((∑ k, u (ix3 i s k) * w (ix3 0 k e)) + rowA b (ix3 i s e)) := by
  pointwise [projA]
theorem cast_apply (x : FVec Ideal S8x2048x2048 .f32) (R : Fin 16384) (e : Fin 2048) :
    (shapeCast S16384x2048 x shapeCasts_S8x2048x2048_S16384x2048 : FVec Ideal S16384x2048 .f32) (ix2 R e) = x (ix3 ⟨R.val / 2048, by omega⟩ ⟨R.val % 2048, by omega⟩ e) := by
  pointwise

end reads

theorem refA_apply (y x : FVec Ideal S8x2048x2048 .f32) (g b : FVec Ideal S1x2048 .f32) (w : FVec Ideal S1x2048x2048 .f32) (b2 : FVec Ideal S1x2048 .f32)
    (R : Fin 16384) (e : Fin 2048) :
    refA y x g b w b2 (ix2 R e) = outv (fun k => y (ix3 ⟨R.val / 2048, by omega⟩ ⟨R.val % 2048, by omega⟩ k)) (fun k => g (ix2 0 k)) (fun k => b (ix2 0 k))
      (x (ix3 ⟨R.val / 2048, by omega⟩ ⟨R.val % 2048, by omega⟩ e)) (fun k => w (ix3 0 k e)) (b2 (ix2 0 e)) := by
  unfold refA outv
  rw [cast_apply, projA_apply, rowA_apply, ← add_assoc]
  simp only [siluA_apply, lnA_eq]

end Cert.Proof.ConfOutRef

end
-- ==== Proof.lean ====
/- The claims about the five calls, put together from the modules under Proof/: the frames, which the generated modules
   prove; that over the reals the Hyena mixing kernel and its reference both compute the specification of Proof/Spec.lean
   (Proof/KerValue.lean and Proof/RefValue.lean), for arguments all of whose entries are reals (Proof/Finite.lean reads that
   off the precondition); and that over the extended reals the two feed-forward calls (Proof/FfnValue.lean, Proof/FfnRef.lean,
   Proof/Ffn0Value.lean, Proof/Ffn0Ref.lean), the Hyena output projection (Proof/HyOut.lean, Proof/HyOutRef.lean) and the
   Conformer module's second half (Proof/ConfOut.lean, Proof/ConfOutRef.lean) leave what their references leave. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.KerValue
public import proofs.«01_k».proof.Proof.RefValue
public import proofs.«01_k».proof.Proof.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.FfnValue
public import proofs.«01_k».proof.Proof.FfnRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Ffn0Value
public import proofs.«01_k».proof.Proof.Ffn0Ref
public import proofs.«01_k».proof.Proof.HyOutRef
public import proofs.«01_k».proof.Proof.ConfOutRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel := fun m g _ => Cert.Kernel.Gen.frame m g
theorem frame_pi : Cert.quiescent_KernelIdeal := fun m g _ => Cert.KernelIdeal.Gen.frame m g
theorem frame_pi_finite : Cert.quiescent_KernelIdeal_pre_finite := fun m g _ => Cert.KernelIdeal.Gen.frame m g
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_ri_finite : Cert.quiescent_ReferenceIdeal_pre_finite := fun m g _ => frame_ri m g trivial

theorem preserves : Cert.preserves_Kernel_KernelIdeal := trivial

/-- Kernel and reference leave the same array: that of the specification at the arguments' reals. -/
theorem algebraic : Cert.algebraic_KernelIdeal_ReferenceIdeal_pre_finite := by
  intro m g m' g' hp ha
  choose A hA using fun c => Finite.of_pre _ _ _ _ _ _ _ (hp c)
  refine ⟨fun c => KerValue.G (A c), ?_, ?_⟩
  · refine (θ_run Cert.KernelIdeal.defs _ _).mono (fun r h c => ⟨(h c).1.trans ?_, (h c).2⟩) (Cert.KernelIdeal.Value.run_blocks (F := Ideal) m g)
    exact KerValue.final m c (A c) (hA c)
  · refine (θ_run Cert.ReferenceIdeal.defs _ _).mono (fun r h c => ⟨(h c).1.trans ?_, (h c).2⟩) (Cert.ReferenceIdeal.Value.run (F := Ideal) m' g')
    have H := hA c
    obtain ⟨e0, e1, e2, e3, e4, e5, e6⟩ := ha c
    rw [← e0, ← e1, ← e2, ← e3, ← e4, ← e5, ← e6] at H
    refine (RefValue.res_eq m' c).trans ?_
    funext y
    refine (congrArg _ (?_ : y = ix3 (y 0) (y 1) (y 2))).trans (RefValue.outA_real (A c) _ _ _ _ _ _ _ H (y 0) (y 1) (y 2))
    funext a
    fin_cases a <;> rfl

theorem frame_p2 : Cert.quiescent_Kernel2 := fun m g _ => Cert.Kernel2.Gen.frame m g
theorem frame_pi2 : Cert.quiescent_Kernel2Ideal := fun m g _ => Cert.Kernel2Ideal.Gen.frame m g
theorem frame_ri2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem preserves2 : Cert.preserves_Kernel2_Kernel2Ideal := trivial

/-- The feed-forward call and its reference leave the same array: every row's result, whatever the arguments hold. -/
theorem algebraic2 : Cert.algebraic_Kernel2Ideal_Reference2Ideal := by
  intro m g m' g' _ ha
  refine ⟨fun c => Ffn.G m c, ?_, ?_⟩
  · refine (θ_run Cert.Kernel2Ideal.defs _ _).mono (fun r h c => ⟨(h c).1.trans ?_, (h c).2⟩) (Cert.Kernel2Ideal.Value.run_blocks (F := Ideal) m g)
    exact Ffn.final m c
  · refine (θ_run Cert.Reference2Ideal.defs _ _).mono (fun r h c => ⟨(h c).1.trans ?_, (h c).2⟩) (Cert.Reference2Ideal.Value.run (F := Ideal) m' g')
    obtain ⟨e0, e1, e2, e3, e4, e5⟩ := ha c
    refine (FfnRef.res_eq m' c).trans ?_
    rw [e0, e1, e2, e3, e4, e5]
    funext y
    refine (congrArg _ (?_ : y = ix2 (y 0) (y 1))).trans (FfnRef.refA_apply _ _ _ _ _ _ (y 0) (y 1))
    funext a
    fin_cases a <;> rfl

theorem frame_p3 : Cert.quiescent_Kernel3 := fun m g _ => Cert.Kernel3.Gen.frame m g
theorem frame_pi3 : Cert.quiescent_Kernel3Ideal := fun m g _ => Cert.Kernel3Ideal.Gen.frame m g
theorem frame_ri3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

theorem preserves3 : Cert.preserves_Kernel3_Kernel3Ideal := trivial

/-- The first layer's feed-forward call and its reference leave the same two arrays: every row's result, and its norm. -/
theorem algebraic3 : Cert.algebraic_Kernel3Ideal_Reference3Ideal := by
  intro m g m' g' _ ha
  refine ⟨fun c => Ffn0.G m c, fun c => Ffn0.Gn m c, ?_, ?_⟩
  · refine (θ_run Cert.Kernel3Ideal.defs _ _).mono (fun r h c => ⟨(h c).1.trans ?_, (h c).2.1.trans ?_, (h c).2.2⟩) (Cert.Kernel3Ideal.Value.run_blocks (F := Ideal) m g)
    · exact Ffn0.final m c
    · exact Ffn0.finaln m c
  · refine (θ_run Cert.Reference3Ideal.defs _ _).mono (fun r h c => ⟨(h c).1.trans ?_, (h c).2.1.trans ?_, (h c).2.2⟩) (Cert.Reference3Ideal.Value.run (F := Ideal) m' g')
    · obtain ⟨e0, e1, e2, e3, e4, e5⟩ := ha c
      refine (?_ : _ = Ffn0Ref.refA (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))).trans ?_
      · rfl
      rw [e0, e1, e2, e3, e4]
      funext y
      refine (congrArg _ (?_ : y = ix2 (y 0) (y 1))).trans (Ffn0Ref.refA_apply _ _ _ _ _ (y 0) (y 1))
      funext a
      fin_cases a <;> rfl
    · obtain ⟨e0, e1, e2, e3, e4, e5⟩ := ha c
      refine (Ffn0Ref.resn_eq m' c).trans ?_
      rw [e0, e1, e2, e3, e4, e5]
      funext y
      refine (congrArg _ (?_ : y = ix2 (y 0) (y 1))).trans (Ffn0Ref.refN_apply _ _ _ _ _ _ (y 0) (y 1))
      funext a
      fin_cases a <;> rfl

theorem frame_p4 : Cert.quiescent_Kernel4 := fun m g _ => Cert.Kernel4.Gen.frame m g
theorem frame_pi4 : Cert.quiescent_Kernel4Ideal := fun m g _ => Cert.Kernel4Ideal.Gen.frame m g
theorem frame_ri4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem preserves4 : Cert.preserves_Kernel4_Kernel4Ideal := trivial

/-- The Hyena layer's output projection and its reference leave the same array. -/
theorem algebraic4 : Cert.algebraic_Kernel4Ideal_Reference4Ideal := by
  intro m g m' g' _ ha
  refine ⟨fun c => HyOut.G m c, ?_, ?_⟩
  · refine (θ_run Cert.Kernel4Ideal.defs _ _).mono (fun r h c => ⟨(h c).1.trans ?_, (h c).2⟩) (Cert.Kernel4Ideal.Value.run_blocks (F := Ideal) m g)
    exact HyOut.final m c
  · refine (θ_run Cert.Reference4Ideal.defs _ _).mono (fun r h c => ⟨(h c).1.trans ?_, (h c).2⟩) (Cert.Reference4Ideal.Value.run (F := Ideal) m' g')
    obtain ⟨e0, e1, e2, e3⟩ := ha c
    refine (?_ : _ = HyOutRef.refA (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))).trans ?_
    · rfl
    rw [e0, e1, e2, e3]
    funext y
    refine (congrArg _ (?_ : y = ix2 (y 0) (y 1))).trans (HyOutRef.refA_apply _ _ _ _ (y 0) (y 1))
    funext a
    fin_cases a <;> rfl

theorem frame_p5 : Cert.quiescent_Kernel5 := fun m g _ => Cert.Kernel5.Gen.frame m g
theorem frame_pi5 : Cert.quiescent_Kernel5Ideal := fun m g _ => Cert.Kernel5Ideal.Gen.frame m g
theorem frame_ri5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem preserves5 : Cert.preserves_Kernel5_Kernel5Ideal := trivial

/-- The Conformer module's second half and its reference leave the same array. -/
theorem algebraic5 : Cert.algebraic_Kernel5Ideal_Reference5Ideal := by
  intro m g m' g' _ ha
  refine ⟨fun c => ConfOut.G m c, ?_, ?_⟩
  · refine (θ_run Cert.Kernel5Ideal.defs _ _).mono (fun r h c => ⟨(h c).1.trans ?_, (h c).2⟩) (Cert.Kernel5Ideal.Value.run_blocks (F := Ideal) m g)
    exact ConfOut.final m c
  · refine (θ_run Cert.Reference5Ideal.defs _ _).mono (fun r h c => ⟨(h c).1.trans ?_, (h c).2⟩) (Cert.Reference5Ideal.Value.run (F := Ideal) m' g')
    obtain ⟨e0, e1, e2, e3, e4, e5⟩ := ha c
    refine (ConfOutRef.res_eq m' c).trans ?_
    rw [e0, e1, e2, e3, e4, e5]
    funext y
    refine (congrArg _ (?_ : y = ix2 (y 0) (y 1))).trans (ConfOutRef.refA_apply _ _ _ _ _ _ (y 0) (y 1))
    funext a
    fin_cases a <;> rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Pre_finite.Gen.facts,
    frame_p, frame_pi, frame_pi_finite, frame_ri, frame_ri_finite, frame_p2, frame_pi2, frame_ri2, frame_p3, frame_pi3, frame_ri3, frame_p4, frame_pi4, frame_ri4,
    frame_p5, frame_pi5, frame_ri5, preserves, algebraic, preserves2, algebraic2, preserves3, algebraic3, preserves4, algebraic4, preserves5, algebraic5⟩

end Cert.Proof

end
